-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_good [hPre_good : Cert.Pre_good.Facts] (m : (ℓ : Loc Cert.KernelIdeal.nD Cert.KernelIdeal.τ Cert.KernelIdeal.sig) → Buf (Elt Ideal) ℓ) : Prop :=
  ∀ c : Dev Cert.KernelIdeal.nD,
    (Cert.Pre_good.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_good [hPre_good : Cert.Pre_good.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_good.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_good [hKernelIdeal : Cert.KernelIdeal.Facts] [hPre_good : Cert.Pre_good.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_good m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_good [hReferenceIdeal : Cert.ReferenceIdeal.Facts] [hPre_good : Cert.Pre_good.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_good m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "mask" .f32 0xFF61B1E6#32 ⊥

def algebraic_KernelIdeal_ReferenceIdeal_pre_good [hKernelIdeal : Cert.KernelIdeal.Facts] [hReferenceIdeal : Cert.ReferenceIdeal.Facts] [hPre_good : Cert.Pre_good.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_good m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_good : Cert.Pre_good.Facts),
    quiescent_Kernel (hKernel := hKernel)
    ∧ quiescent_KernelIdeal (hKernelIdeal := hKernelIdeal)
    ∧ quiescent_KernelIdeal_pre_good (hKernelIdeal := hKernelIdeal) (hPre_good := hPre_good)
    ∧ quiescent_ReferenceIdeal (hReferenceIdeal := hReferenceIdeal)
    ∧ quiescent_ReferenceIdeal_pre_good (hReferenceIdeal := hReferenceIdeal) (hPre_good := hPre_good)
    ∧ preserves_Kernel_KernelIdeal
    ∧ algebraic_KernelIdeal_ReferenceIdeal_pre_good (hKernelIdeal := hKernelIdeal) (hReferenceIdeal := hReferenceIdeal) (hPre_good := hPre_good)
-- ==== Pre_good.lean ====
abbrev S1024x128 : Shape := ⟨2, ![1024, 128]⟩
abbrev S1000x128 : Shape := ⟨2, ![1000, 128]⟩
abbrev S1000x64 : Shape := ⟨2, ![1000, 64]⟩
abbrev S_ : Shape := ⟨0, ![]⟩

class Facts : Prop where
  bcast_S_S1024x128 : S_.BroadcastsInDim S1024x128 (![] : Fin 0 → Fin S1024x128.rank)
  reducesTo_S1024x128_S_d0_1 : S1024x128.ReducesTo [0, 1] S_
  h_S_ : 0 < S_.numel
  bcast_S_S1000x128 : S_.BroadcastsInDim S1000x128 (![] : Fin 0 → Fin S1000x128.rank)
  reducesTo_S1000x128_S_d0_1 : S1000x128.ReducesTo [0, 1] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S1024x128 .f32) (main_arg1 : FVec F S1000x128 .f32) (main_arg2 : FVec F S1000x128 .f32) (main_arg3 : FVec F S1000x64 .f32) : IVec S_ 1 :=
  let main_v0 : FVec F S1024x128 .f32 := Host.absf main_arg0
  let main_cst : FVec F S_ .f32 := constant S_ .f32 0x7F800000#32
  let main_v1 : FVec F S1024x128 .f32 := broadcastInDim S1024x128 ![] bcast_S_S1024x128 main_cst
  let main_v2 : IVec S1024x128 1 := cmpf .olt main_v0 main_v1
  let main_c : IVec S_ 1 := constantI S_ 1 1#1
  let main_v3 : IVec S_ 1 := (fun x v => Host.reduce IntOp.andi x v reducesTo_S1024x128_S_d0_1 h_S_) main_v2 main_c
  let main_v4 : FVec F S1000x128 .f32 := Host.absf main_arg1
  let main_cst_0 : FVec F S_ .f32 := constant S_ .f32 0x7F800000#32
  let main_v5 : FVec F S1000x128 .f32 := broadcastInDim S1000x128 ![] bcast_S_S1000x128 main_cst_0
  let main_v6 : IVec S1000x128 1 := cmpf .olt main_v4 main_v5
  let main_c_1 : IVec S_ 1 := constantI S_ 1 1#1
  let main_v7 : IVec S_ 1 := (fun x v => Host.reduce IntOp.andi x v reducesTo_S1000x128_S_d0_1 h_S_) main_v6 main_c_1
  let main_v8 : IVec S_ 1 := andi main_v3 main_v7
  let main_cst_2 : FVec F S_ .f32 := constant S_ .f32 0x7F800000#32
  let main_v9 : FVec F S1000x128 .f32 := broadcastInDim S1000x128 ![] bcast_S_S1000x128 main_cst_2
  let main_v10 : IVec S1000x128 1 := cmpf .olt main_arg2 main_v9
  let main_c_3 : IVec S_ 1 := constantI S_ 1 1#1
  let main_v11 : IVec S_ 1 := (fun x v => Host.reduce IntOp.andi x v reducesTo_S1000x128_S_d0_1 h_S_) main_v10 main_c_3
  let main_v12 : IVec S_ 1 := andi main_v8 main_v11
  let main_cst_4 : FVec F S_ .f32 := constant S_ .f32 0x00000000#32
  let main_v13 : FVec F S1000x128 .f32 := broadcastInDim S1000x128 ![] bcast_S_S1000x128 main_cst_4
  let main_v14 : IVec S1000x128 1 := cmpf .ogt main_arg2 main_v13
  let main_c_5 : IVec S_ 1 := constantI S_ 1 1#1
  let main_v15 : IVec S_ 1 := (fun x v => Host.reduce IntOp.andi x v reducesTo_S1000x128_S_d0_1 h_S_) main_v14 main_c_5
  fn_part1 (F := F) main_v12 main_v15
-- ==== Kernel.lean ====
abbrev S1024x128 : Shape := ⟨2, ![1024, 128]⟩
abbrev S1000x128 : Shape := ⟨2, ![1000, 128]⟩
abbrev S1000x64 : Shape := ⟨2, ![1000, 64]⟩
abbrev S1024x64 : Shape := ⟨2, ![1024, 64]⟩
abbrev S256x128 : Shape := ⟨2, ![256, 128]⟩
abbrev S256x64 : Shape := ⟨2, ![256, 64]⟩
abbrev S1000 : Shape := ⟨1, ![1000]⟩
abbrev S256x1000 : Shape := ⟨2, ![256, 1000]⟩
abbrev S1x1000 : Shape := ⟨2, ![1, 1000]⟩
abbrev S256x24 : Shape := ⟨2, ![256, 24]⟩
abbrev S256x1024 : Shape := ⟨2, ![256, 1024]⟩
abbrev S256 : Shape := ⟨1, ![256]⟩
abbrev S256x1 : Shape := ⟨2, ![256, 1]⟩
abbrev S24x64 : Shape := ⟨2, ![24, 64]⟩

abbrev nBuf : Space → Nat
  | .hbm => 5
  | .vmem => 7
  | .smem => 0
  | _ => 0

abbrev bufTy : (tb : Table) → Fin (tcTables nBuf tb) → BufTy
  | .hbm, ⟨0, _⟩ => ⟨S1024x128, .f32⟩
  | .hbm, ⟨1, _⟩ => ⟨S1000x128, .f32⟩
  | .hbm, ⟨2, _⟩ => ⟨S1000x128, .f32⟩
  | .hbm, ⟨3, _⟩ => ⟨S1000x64, .f32⟩
  | .hbm, ⟨4, _⟩ => ⟨S1024x64, .f32⟩
  | .local _ .vmem, ⟨0, _⟩ => ⟨S256x128, .f32⟩
  | .local _ .vmem, ⟨1, _⟩ => ⟨S256x128, .f32⟩
  | .local _ .vmem, ⟨2, _⟩ => ⟨S1000x128, .f32⟩
  | .local _ .vmem, ⟨3, _⟩ => ⟨S1000x128, .f32⟩
  | .local _ .vmem, ⟨4, _⟩ => ⟨S1000x64, .f32⟩
  | .local _ .vmem, ⟨5, _⟩ => ⟨S256x64, .f32⟩
  | .local _ .vmem, ⟨6, _⟩ => ⟨S256x64, .f32⟩
  | _, _ => ⟨S1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1000x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1000x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== KernelIdeal.lean ====
variable {F : FTy → Type} [FloatOps F] [Named F]
def κ : String → Option EReal := fun
  | "mask" => some ⊥
  | _ => none
-- ==== ReferenceIdeal.lean ====
abbrev S1024x128 : Shape := ⟨2, ![1024, 128]⟩
abbrev S1000x128 : Shape := ⟨2, ![1000, 128]⟩
abbrev S1000x64 : Shape := ⟨2, ![1000, 64]⟩
abbrev S1024x1x128 : Shape := ⟨3, ![1024, 1, 128]⟩
abbrev S1x1000x128 : Shape := ⟨3, ![1, 1000, 128]⟩
abbrev S1024x1000x128 : Shape := ⟨3, ![1024, 1000, 128]⟩
abbrev S_ : Shape := ⟨0, ![]⟩
abbrev S1024x1000 : Shape := ⟨2, ![1024, 1000]⟩
abbrev S1024x10 : Shape := ⟨2, ![1024, 10]⟩
abbrev S1024 : Shape := ⟨1, ![1024]⟩
abbrev S1024x1 : Shape := ⟨2, ![1024, 1]⟩
abbrev S1024x10x1 : Shape := ⟨3, ![1024, 10, 1]⟩
abbrev S1024x10x64 : Shape := ⟨3, ![1024, 10, 64]⟩
abbrev S1024x64 : Shape := ⟨2, ![1024, 64]⟩

abbrev nBuf : Space → Nat
  | .hbm => 61
  | .vmem => 0
  | .smem => 0
  | _ => 0

abbrev bufTy : (tb : Table) → Fin (tcTables nBuf tb) → BufTy
  | .hbm, ⟨0, _⟩ => ⟨S1024x128, .f32⟩
  | .hbm, ⟨1, _⟩ => ⟨S1000x128, .f32⟩
  | .hbm, ⟨2, _⟩ => ⟨S1000x128, .f32⟩
  | .hbm, ⟨3, _⟩ => ⟨S1000x64, .f32⟩
  | .hbm, ⟨4, _⟩ => ⟨S1024x1x128, .f32⟩
  | .hbm, ⟨5, _⟩ => ⟨S1000x128, .f32⟩
  | .hbm, ⟨6, _⟩ => ⟨S1x1000x128, .f32⟩
  | .hbm, ⟨7, _⟩ => ⟨S1024x1000x128, .f32⟩
  | .hbm, ⟨8, _⟩ => ⟨S1024x1000x128, .f32⟩
  | .hbm, ⟨9, _⟩ => ⟨S1024x1000x128, .f32⟩
  | .hbm, ⟨10, _⟩ => ⟨S1024x1000x128, .f32⟩
  | .hbm, ⟨11, _⟩ => ⟨S1024x1000x128, .f32⟩
  | .hbm, ⟨12, _⟩ => ⟨S_, .f32⟩
  | .hbm, ⟨13, _⟩ => ⟨S1000x128, .f32⟩
  | .hbm, ⟨14, _⟩ => ⟨S1000x128, .f32⟩
  | .hbm, ⟨15, _⟩ => ⟨S1x1000x128, .f32⟩
  | .hbm, ⟨16, _⟩ => ⟨S1024x1000x128, .f32⟩
  | .hbm, ⟨17, _⟩ => ⟨S1024x1000x128, .f32⟩
  | .hbm, ⟨18, _⟩ => ⟨S1000x128, .f32⟩
  | .hbm, ⟨19, _⟩ => ⟨S1x1000x128, .f32⟩
  | .hbm, ⟨20, _⟩ => ⟨S1024x1000x128, .f32⟩
  | .hbm, ⟨21, _⟩ => ⟨S1024x1000x128, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S1024x1000x128, .f32⟩
  | .hbm, ⟨28, _⟩ => ⟨S1024x1000x128, .f32⟩
  | .hbm, ⟨29, _⟩ => ⟨S_, .f32⟩
  | .hbm, ⟨30, _⟩ => ⟨S1024x1000, .f32⟩
  | .hbm, ⟨31, _⟩ => ⟨S1024x10, .f32⟩
  | .hbm, ⟨32, _⟩ => ⟨S1024x10, .i32⟩
  | .hbm, ⟨33, _⟩ => ⟨S_, .f32⟩
  | .hbm, ⟨34, _⟩ => ⟨S1024, .f32⟩
  | .hbm, ⟨35, _⟩ => ⟨S_, .f32⟩
  | .hbm, ⟨36, _⟩ => ⟨S1024, .f32⟩
  | .hbm, ⟨37, _⟩ => ⟨S1024, .f32⟩
  | .hbm, ⟨38, _⟩ => ⟨S1024x1, .f32⟩
  | .hbm, ⟨39, _⟩ => ⟨S1024x10, .f32⟩
  | .hbm, ⟨40, _⟩ => ⟨S1024x10, .f32⟩
  | .hbm, ⟨41, _⟩ => ⟨S1024x10, .f32⟩
  | .hbm, ⟨42, _⟩ => ⟨S_, .f32⟩
  | .hbm, ⟨43, _⟩ => ⟨S1024, .f32⟩
  | .hbm, ⟨44, _⟩ => ⟨S1024x1, .f32⟩
  | .hbm, ⟨45, _⟩ => ⟨S1024x10, .f32⟩
  | .hbm, ⟨46, _⟩ => ⟨S1024x10, .f32⟩
  | .hbm, ⟨47, _⟩ => ⟨S_, .i32⟩
  | .hbm, ⟨48, _⟩ => ⟨S1024x10, .i32⟩
  | .hbm, ⟨49, _⟩ => ⟨S1024x10, .i1⟩
  | .hbm, ⟨50, _⟩ => ⟨S_, .i32⟩
  | .hbm, ⟨51, _⟩ => ⟨S1024x10, .i32⟩
  | .hbm, ⟨52, _⟩ => ⟨S1024x10, .i32⟩
  | .hbm, ⟨53, _⟩ => ⟨S1024x10, .i32⟩
  | .hbm, ⟨54, _⟩ => ⟨S1024x10x1, .i32⟩
  | .hbm, ⟨55, _⟩ => ⟨S1024x10x64, .f32⟩
  | .hbm, ⟨56, _⟩ => ⟨S1024x10x1, .f32⟩
  | .hbm, ⟨57, _⟩ => ⟨S1024x10x64, .f32⟩
  | .hbm, ⟨58, _⟩ => ⟨S1024x10x64, .f32⟩
  | .hbm, ⟨59, _⟩ => ⟨S_, .f32⟩
  | .hbm, ⟨60, _⟩ => ⟨S1024x64, .f32⟩
  | _, _ => ⟨S1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_0 : Ref sig .tc := ⟨.hbm, 22, rfl⟩
abbrev main_v17 : Ref sig .tc := ⟨.hbm, 23, rfl⟩
abbrev main_cst_1 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_2 : Ref sig .tc := ⟨.hbm, 29, rfl⟩
abbrev main_v22 : Ref sig .tc := ⟨.hbm, 30, rfl⟩
abbrev main_values : Ref sig .tc := ⟨.hbm, 31, rfl⟩
abbrev main_indices : Ref sig .tc := ⟨.hbm, 32, rfl⟩
abbrev main_cst_3 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_5 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_c : Ref sig .tc := ⟨.hbm, 47, rfl⟩
abbrev main_v34 : Ref sig .tc := ⟨.hbm, 48, rfl⟩
abbrev main_v35 : Ref sig .tc := ⟨.hbm, 49, rfl⟩
abbrev main_c_6 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_7 : Ref sig .tc := ⟨.hbm, 59, rfl⟩
abbrev main_v44 : Ref sig .tc := ⟨.hbm, 60, rfl⟩

abbrev nD : Nat := 1
abbrev τ : Topo := Topo.v7x

variable {F : FTy → Type} [FloatOps F]
-- ==== Proof.Order.lean ====
module

public import Idealize.ShloMosaic.Lib.SortFacts
public import Idealize.ShloMosaic.PureOps.Ideal.Laws
public import Mathlib.Data.EReal.Operations

@[expose] public section

noncomputable section

/-! The ten greatest entries of a row: what a stable sort by descending value says of its first positions, and what
    repeatedly masking the first greatest entry picks. -/

namespace Cert.Top

open Idealize.ShloMosaic

variable {n : Nat}

/-- Position `a` is ahead of position `b`: a greater entry, or an equal entry at a lower position. -/
def Ahead (key : Fin n → EReal) (a b : Fin n) : Prop := key b < key a ∨ (key a = key b ∧ a < b)

/-- Putting a position in front of a list of higher positions, by descending entry, keeps the list in order. -/
theorem ahead_insert (key : Fin n → EReal) (a : Fin n) (l : List (Fin n)) (ha : ∀ b ∈ l, a < b)
    (hl : l.Pairwise (Ahead key)) :
    (insertBefore (fun x y => decide (key y < key x)) a l).Pairwise (Ahead key) := by
  induction l with
  | nil => simp [insertBefore]
  | cons b l ih =>
    obtain ⟨hb, hl'⟩ := List.pairwise_cons.mp hl
    rw [insertBefore]
    by_cases h : key a < key b
    · rw [if_pos (by simpa using h)]
      refine List.Pairwise.cons (fun x hx => ?_) (ih (fun x hx => ha x (List.mem_cons_of_mem _ hx)) hl')
      have hx' := (perm_insertBefore _ a l).subset hx
      cases hx' with
      | head => exact Or.inl h
      | tail _ hx' => exact hb x hx'
    · rw [if_neg (by simpa using h)]
      refine List.Pairwise.cons (fun x hx => ?_) hl
      have hle : key x ≤ key a := by
        cases hx with
        | head => exact not_lt.mp h
        | tail _ hx => exact (hb x hx).elim (fun h1 => h1.le.trans (not_lt.mp h)) (fun h1 => h1.1 ▸ not_lt.mp h)
      exact hle.lt_or_eq.elim Or.inl (fun e => Or.inr ⟨e.symm, ha x hx⟩)

/-- A stable sort by descending entry of an increasing list of positions leaves earlier positions ahead of later ones. -/
theorem ahead_stableSort (key : Fin n → EReal) (l : List (Fin n)) (hl : l.Pairwise (· < ·)) :
    (stableSort (fun x y => decide (key y < key x)) l).Pairwise (Ahead key) := by
  induction l with
  | nil => exact List.Pairwise.nil
  | cons a l ih =>
    obtain ⟨ha, hl'⟩ := List.pairwise_cons.mp hl
    exact ahead_insert key a _ (fun b hb => ha b ((perm_stableSort _ l).subset hb)) (ih hl')

/-- The position of the `r`-th entry when the entries are sorted from the greatest down, equal entries by position. -/
def rank (key : Fin n → EReal) (r : Fin n) : Fin n := sortedFrom (fun k k' => decide (key k' < key k)) r

/-- Different ranks are different positions. -/
theorem rank_injective (key : Fin n → EReal) : Function.Injective (rank key) := sortedFrom_injective _

/-- Every position has a rank. -/
theorem rank_surjective (key : Fin n → EReal) : Function.Surjective (rank key) := sortedFrom_surjective _

/-- A lower rank is ahead of a higher one. -/
theorem ahead_rank (key : Fin n → EReal) {r s : Fin n} (h : r < s) : Ahead key (rank key r) (rank key s) := by
  have hp := List.pairwise_iff_get.mp (ahead_stableSort key (List.finRange n) (List.pairwise_lt_finRange n))
  exact hp (r.cast (length_sortPositions n _).symm) (s.cast (length_sortPositions n _).symm) h

/-- Position `p` holds the greatest entry, and no lower position holds it. -/
def First (f : Fin n → EReal) (p : Fin n) : Prop := (∀ j, f j ≤ f p) ∧ ∀ j, f j = f p → p ≤ j

/-- The row after the entries at the first `r` ranks of its first `n` positions have been masked. -/
def masked {N : Nat} (f : Fin N → EReal) (key : Fin n → EReal) (r : Nat) (j : Fin N) : EReal :=
  if ∃ s : Fin n, s.val < r ∧ (rank key s).val = j.val then ⊥ else f j

/-- With the entries from `n` on masked from the start and the first `n` real, the first greatest entry left after masking
    the first `r` ranks is at rank `r`. -/
theorem first_masked {N : Nat} (hN : n ≤ N) (f : Fin N → EReal) (key : Fin n → EReal)
    (hf : ∀ j : Fin n, f (j.castLE hN) = key j)
    (hp : ∀ j : Fin N, n ≤ j.val → f j = ⊥) (hk : ∀ j, key j ≠ ⊥) (r : Fin n) :
    First (masked f key r.val) ((rank key r).castLE hN) := by
  have hr : masked f key r.val ((rank key r).castLE hN) = key (rank key r) := by
    unfold masked
    rw [if_neg, hf]
    rintro ⟨s, hs, he⟩
    have hsr : s = r := rank_injective key (Fin.ext he)
    rw [hsr] at hs
    exact lt_irrefl _ hs
  have hcase : ∀ j : Fin N, masked f key r.val j = ⊥ ∨
      ∃ s : Fin n, r ≤ s ∧ j.val = (rank key s).val ∧ masked f key r.val j = key (rank key s) := by
    intro j
    by_cases hj : j.val < n
    · obtain ⟨s, hs⟩ := rank_surjective key ⟨j.val, hj⟩
      have hs' : (rank key s).val = j.val := congrArg Fin.val hs
      by_cases hrs : s.val < r.val
      · left; unfold masked; rw [if_pos ⟨s, hrs, hs'⟩]
      · right
        refine ⟨s, Fin.le_def.mpr (not_lt.mp hrs), hs'.symm, ?_⟩
        unfold masked
        rw [if_neg, ← hf]
        · exact congrArg f (Fin.ext (by rw [Fin.val_castLE, hs']))
        · rintro ⟨u, hu, he⟩
          have hus : u = s := rank_injective key (Fin.ext (he.trans hs'.symm))
          rw [hus] at hu
          exact hrs hu
    · left
      unfold masked
      rw [hp j (not_lt.mp hj), ite_self]
  constructor
  · intro j
    rw [hr]
    rcases hcase j with h | ⟨s, hs, -, h⟩
    · rw [h]; exact bot_le
    · rw [h]
      rcases hs.lt_or_eq with hlt | rfl
      · exact (ahead_rank key hlt).elim (fun h => h.le) (fun h => h.1.ge)
      · exact le_rfl
  · intro j hj
    rw [hr] at hj
    rcases hcase j with h | ⟨s, hs, hv, h⟩
    · exact absurd (hj.symm.trans h) (hk _)
    · rw [h] at hj
      rcases hs.lt_or_eq with hlt | rfl
      · rcases ahead_rank key hlt with h1 | h1
        · exact absurd hj h1.ne
        · rw [Fin.le_def, hv, Fin.val_castLE]; exact (Fin.lt_def.mp h1.2).le
      · rw [Fin.le_def, hv, Fin.val_castLE]

/-- Masking rank `r` too gives the row masked to `r + 1`. -/
theorem masked_succ {N : Nat} (hN : n ≤ N) (f : Fin N → EReal) (key : Fin n → EReal) (r : Fin n) (j : Fin N) :
    (if j = (rank key r).castLE hN then ⊥ else masked f key r.val j) = masked f key (r.val + 1) j := by
  unfold masked
  by_cases hj : j = (rank key r).castLE hN
  · rw [if_pos hj, if_pos ⟨r, Nat.lt_succ_self _, by rw [hj, Fin.val_castLE]⟩]
  · rw [if_neg hj]
    refine if_congr ⟨fun ⟨s, hs, he⟩ => ⟨s, Nat.lt_succ_of_lt hs, he⟩, fun ⟨s, hs, he⟩ => ⟨s, ?_, he⟩⟩ rfl rfl
    rcases Nat.lt_succ_iff_lt_or_eq.mp hs with h | h
    · exact h
    · exact absurd (Fin.ext (by rw [← he, Fin.val_castLE, Fin.ext h])) hj

/-- Nothing masked. -/
theorem masked_zero {N : Nat} (f : Fin N → EReal) (key : Fin n → EReal) : masked f key 0 = f := by
  funext j
  unfold masked
  rw [if_neg]
  rintro ⟨s, hs, -⟩
  exact Nat.not_lt_zero _ hs

end Cert.Top

end
-- ==== Proof.Round.lean ====
module

public import proofs.«01_k».proof.Proof.Order
public import proofs.«01_k».proof.Proof.Gen.KernelIdeal.Skeleton
public import Idealize.ShloMosaic.Lib.ValueIdx
public import Idealize.ShloMosaic.Lib.ValueIdxRank1
public import Idealize.ShloMosaic.Lib.Pipeline.Value
public import Idealize.ShloMosaic.Lib.SortNet.Extract
public import Idealize.ShloMosaic.PureOps.Ideal.Laws

@[expose] public section

noncomputable section

/-! One round of the kernel over a 256-row tile: the greatest entry of each row, the first position holding it, the row with
    that position masked, the weight put at that position and the sum of the weights. -/

namespace Cert.Round

open Idealize.ShloMosaic Idealize.ShloMosaic.ValueIdx Cert.KernelIdeal Cert.KernelIdeal.Gen Cert.Top

/-- Each row's greatest entry. -/
def cur (v : FVec Ideal S256x1024 .f32) : FVec Ideal S256x1 .f32 :=
  shapeCast S256x1 (multiReduction .maximumf [1] S256 v 0xFF800000#32 reduces_S256x1024_S256 (.inl rfl) rfl) shapeCasts_S256_S256x1

/-- Each entry's position in its row. -/
def pos : IVec S256x1024 32 := iota .tc S256x1024 32 [1] iota_S256x1024_d1_w32

/-- The positions holding their row's greatest entry; 1024 elsewhere. -/
def cand (v : FVec Ideal S256x1024 .f32) : IVec S256x1024 32 :=
  select (cmpf .oeq v (broadcastTo S256x1024 (cur v) broadcasts_S256x1_S256x1024)) pos (broadcast S256x1024 1024#32)

/-- The mark of each row's first position holding its greatest entry. -/
def mark (v : FVec Ideal S256x1024 .f32) : IVec S256x1024 1 :=
  cmpi .eq pos (broadcastTo S256x1024 (shapeCast S256x1 (multiReductionI .minsi [1] S256 (cand v) 2147483647#32 reduces_S256x1024_S256 rfl)
    shapeCasts_S256_S256x1) broadcasts_S256x1_S256x1024)

/-- The tile with the marked positions masked. -/
def next (v : FVec Ideal S256x1024 .f32) : FVec Ideal S256x1024 .f32 :=
  select (mark v) (broadcast S256x1024 (Named.named κ "mask" 0xFF61B1E6#32)) v

/-- Each row's weight of this round: the exponential of its greatest entry less `m`. -/
def weight (m : FVec Ideal S256x1 .f32) (v : FVec Ideal S256x1024 .f32) : FVec Ideal S256x1 .f32 := exp (subf (cur v) m)

/-- The weights so far, this round's put at the marked positions. -/
def put (m : FVec Ideal S256x1 .f32) (v w : FVec Ideal S256x1024 .f32) : FVec Ideal S256x1024 .f32 :=
  select (mark v) (broadcastTo S256x1024 (shapeCast S256x1 (weight m v) shapeCasts_S256x1_S256x1) broadcasts_S256x1_S256x1024) w

/-- The tile after `r` rounds. -/
def tile (v : FVec Ideal S256x1024 .f32) : Nat → FVec Ideal S256x1024 .f32
  | 0 => v
  | r + 1 => next (tile v r)

/-- The weights after `r` rounds. -/
def weights (m : FVec Ideal S256x1 .f32) (v w : FVec Ideal S256x1024 .f32) : Nat → FVec Ideal S256x1024 .f32
  | 0 => w
  | r + 1 => put m (tile v r) (weights m v w r)

/-- The weights' sum after `r` rounds. -/
def total (m : FVec Ideal S256x1 .f32) (v : FVec Ideal S256x1024 .f32) (s : FVec Ideal S256x1 .f32) : Nat → FVec Ideal S256x1 .f32
  | 0 => s
  | r + 1 => addf (total m v s r) (weight m (tile v r))

/-! ## Read at a row -/

/-- The index of a row's entry over its row. -/
theorem lift_row (b : Fin 256) (k : Fin 1024) : reduces_S256x1024_S256.lift (ix1 b) k = ix2 b k := by
  rw [eq_ix2 (reduces_S256x1024_S256.lift (ix1 b) k)]
  rfl

/-- A column spread along the rows reads the column. -/
theorem spread_apply {α : Type} (c : S256x1.Idx → α) (b : Fin 256) (j : Fin 1024) :
    broadcastTo S256x1024 c broadcasts_S256x1_S256x1024 (ix2 b j) = c (ix2 b 0) :=
  broadcastTo_apply c _ _ _ (fun a => by fin_cases a <;> rfl)

/-- A vector viewed as a column reads the vector. -/
theorem column_apply {α : Type} (c : S256.Idx → α) (b : Fin 256) :
    shapeCast S256x1 c shapeCasts_S256_S256x1 (ix2 b 0) = c (ix1 b) :=
  shapeCast_apply c _ _ _ (by rw [Shape.rowMajor_val_one, Shape.rowMajor_val_two]; simp)

/-- The position tile reads the position. -/
theorem pos_apply (b : Fin 256) (j : Fin 1024) : pos (ix2 b j) = BitVec.ofNat 32 j.val :=
  iota_single_apply _ _ _ _ _ _

/-- The pattern of the reduction's start is `⊥`. -/
theorem start_eq : (FloatOps.ofBits .f32 0xFF800000#32 : Ideal .f32) = ⊥ := by
  show Ideal.ofBits .f32 0xFF800000#32 = ⊥
  simp [Ideal.ofBits, Ideal.ieee]

/-- The fold of `max` over a row with a first greatest entry is that entry. -/
theorem fold_max {n : Nat} (f : Fin n → EReal) (p : Fin n) (h : First f p) : Finset.univ.fold max ⊥ f = f p :=
  le_antisymm ((Finset.fold_max_le _).mpr ⟨bot_le, fun j _ => h.1 j⟩)
    ((Finset.le_fold_max _).mpr (Or.inr ⟨p, Finset.mem_univ p, le_rfl⟩))

/-- A row's greatest entry is the entry at its first greatest position. -/
theorem cur_apply (v : FVec Ideal S256x1024 .f32) (b : Fin 256) (p : Fin 1024) (h : First (fun j => v (ix2 b j)) p) :
    cur v (ix2 b 0) = v (ix2 b p) := by
  unfold cur
  rw [column_apply]
  refine (Ideal.multiReduction_maximumf_single v _ _ _ _ (ix1 b)).trans ?_
  rw [start_eq]
  have e : v ∘ reduces_S256x1024_S256.lift (ix1 b) = fun j : Fin 1024 => v (ix2 b j) := funext fun k => congrArg v (lift_row b k)
  rw [e]
  exact fold_max _ p h

/-- A fold of the signed minimum is at most the start and every word met, and is one of them. -/
theorem fold_min {ι : Type} [DecidableEq ι] (g : ι → BitVec 32) (s : Finset ι) (init : BitVec 32) :
    (∀ i ∈ s, (s.fold IntOp.minsi init g).toInt ≤ (g i).toInt) ∧
      (s.fold IntOp.minsi init g = init ∨ ∃ i ∈ s, s.fold IntOp.minsi init g = g i) := by
  induction s using Finset.induction_on with
  | empty => exact ⟨fun i hi => absurd hi (Finset.notMem_empty i), Or.inl Finset.fold_empty⟩
  | insert a s ha ih =>
    rw [Finset.fold_insert ha]
    have hm := Idealize.ShloMosaic.SortNet.toInt_minsi (g a) (s.fold IntOp.minsi init g)
    refine ⟨fun i hi => hm.le.trans ?_, ?_⟩
    · rcases Finset.mem_insert.mp hi with rfl | hi
      · exact min_le_left _ _
      · exact (min_le_right _ _).trans (ih.1 i hi)
    · rcases min_choice (g a).toInt (s.fold IntOp.minsi init g).toInt with h | h
      · exact Or.inr ⟨a, Finset.mem_insert_self a s, BitVec.eq_of_toInt_eq (hm.trans h)⟩
      · rw [BitVec.eq_of_toInt_eq (hm.trans h)]
        exact ih.2.imp id fun ⟨i, hi, e⟩ => ⟨i, Finset.mem_insert_of_mem hi, e⟩

/-- A position's word reads the position. -/
theorem toInt_word (n : Nat) (h : n < 2048) : (BitVec.ofNat 32 n).toInt = n := by
  rw [BitVec.toInt_ofNat']
  have : n % 2 ^ 32 = n := Nat.mod_eq_of_lt (by omega)
  simp only [Int.bmod]
  omega

/-- The candidates of a row: the positions of its greatest entry, 1024 elsewhere. -/
theorem cand_apply (v : FVec Ideal S256x1024 .f32) (b : Fin 256) (p : Fin 1024) (h : First (fun j => v (ix2 b j)) p) (j : Fin 1024) :
    cand v (ix2 b j) = if v (ix2 b j) = v (ix2 b p) then BitVec.ofNat 32 j.val else 1024#32 := by
  unfold cand
  rw [select_apply, cmpf_apply, spread_apply, cur_apply v b p h, pos_apply, broadcast_apply, Ideal.cmpf_def]
  by_cases e : v (ix2 b j) = v (ix2 b p)
  · rw [if_pos e]; simp [Ideal.cmp, e, Scalar.select]
  · rw [if_neg e]; simp [Ideal.cmp, e, Scalar.select]

/-- The least candidate is the first greatest position. -/
theorem fold_word {n : Nat} (f : Fin n → EReal) (p : Fin n) (h : First f p) (hn : n ≤ 1024) :
    Finset.univ.fold IntOp.minsi 2147483647#32 (fun j : Fin n => if f j = f p then BitVec.ofNat 32 j.val else 1024#32)
      = BitVec.ofNat 32 p.val := by
  obtain ⟨h1, h2⟩ := fold_min (fun j : Fin n => if f j = f p then BitVec.ofNat 32 j.val else 1024#32) Finset.univ 2147483647#32
  have hp := h1 p (Finset.mem_univ p)
  rw [if_pos rfl, toInt_word _ (by omega)] at hp
  refine BitVec.eq_of_toInt_eq ?_
  rw [toInt_word p.val (by omega)]
  refine le_antisymm hp ?_
  rcases h2 with h2 | ⟨i, -, h2⟩
  · rw [h2]
    have : (2147483647#32 : BitVec 32).toInt = 2147483647 := by decide
    rw [this]; omega
  · refine le_of_le_of_eq ?_ (congrArg BitVec.toInt h2).symm
    split
    · next he =>
      rw [toInt_word _ (by omega)]
      have := Fin.le_def.mp (h.2 i he)
      omega
    · rw [toInt_word 1024 (by omega)]; omega

/-- A row's mark is at its first greatest position. -/
theorem mark_apply (v : FVec Ideal S256x1024 .f32) (b : Fin 256) (p : Fin 1024) (h : First (fun j => v (ix2 b j)) p) (j : Fin 1024) :
    mark v (ix2 b j) = if j = p then 1#1 else 0#1 := by
  have hfold : multiReductionI .minsi [1] S256 (cand v) 2147483647#32 reduces_S256x1024_S256 rfl (ix1 b) = BitVec.ofNat 32 p.val := by
    refine (multiReductionI_eq_fold .minsi (cand v) _ _ _ (ix1 b)).trans ?_
    refine (reduces_S256x1024_S256.fold_filter_drop_single IntOp.minsi _ (cand v) (ix1 b)).trans ?_
    have e : (cand v ∘ reduces_S256x1024_S256.lift (ix1 b))
        = fun j : Fin 1024 => if v (ix2 b j) = v (ix2 b p) then BitVec.ofNat 32 j.val else 1024#32 :=
      funext fun k => (congrArg (cand v) (lift_row b k)).trans (cand_apply v b p h k)
    rw [e]
    exact fold_word _ p h (by omega)
  unfold mark
  show IntOp.cmpi .eq _ _ = _
  rw [spread_apply, column_apply, hfold, pos_apply]
  by_cases e : j = p
  · rw [if_pos e, e]; simp [IntOp.cmpi]
  · rw [if_neg e]
    have : BitVec.ofNat 32 j.val ≠ BitVec.ofNat 32 p.val := fun he => e (Fin.ext (by
      have := congrArg BitVec.toInt he
      rw [toInt_word _ (by omega), toInt_word _ (by omega)] at this
      omega))
    simp only [IntOp.cmpi, beq_eq_false_iff_ne.mpr this]
    rfl

/-- The mask's value is `⊥`. -/
theorem mask_eq : (Named.named κ "mask" 0xFF61B1E6#32 : Ideal .f32) = ⊥ := IdealRules.named_const.ideal_named_scalar _ _ _ _ rfl

/-- The masked tile: `⊥` at the first greatest position, the tile elsewhere. -/
theorem next_apply (v : FVec Ideal S256x1024 .f32) (b : Fin 256) (p : Fin 1024) (h : First (fun j => v (ix2 b j)) p) (j : Fin 1024) :
    next v (ix2 b j) = if j = p then ⊥ else v (ix2 b j) := by
  unfold next
  rw [select_apply, mark_apply v b p h, broadcast_apply, mask_eq]
  by_cases e : j = p
  · rw [if_pos e, if_pos e]; rfl
  · rw [if_neg e, if_neg e]; rfl

/-- A row's weight of a round. -/
theorem weight_apply (m : FVec Ideal S256x1 .f32) (v : FVec Ideal S256x1024 .f32) (b : Fin 256) (p : Fin 1024)
    (h : First (fun j => v (ix2 b j)) p) : weight m v (ix2 b 0) = Ideal.exp (v (ix2 b p) - m (ix2 b 0)) := by
  have e : weight m v (ix2 b 0) = FloatOps.exp (FloatOps.subf (cur v (ix2 b 0)) (m (ix2 b 0))) := rfl
  rw [e, cur_apply v b p h, Ideal.exp_def, Ideal.subf_def]

/-- The weights after a round: its weight at the first greatest position, the weights so far elsewhere. -/
theorem put_apply (m : FVec Ideal S256x1 .f32) (v w : FVec Ideal S256x1024 .f32) (b : Fin 256) (p : Fin 1024)
    (h : First (fun j => v (ix2 b j)) p) (j : Fin 1024) :
    put m v w (ix2 b j) = if j = p then Ideal.exp (v (ix2 b p) - m (ix2 b 0)) else w (ix2 b j) := by
  unfold put
  rw [select_apply, mark_apply v b p h, spread_apply, shapeCast_apply (weight m v) _ (ix2 b 0) (ix2 b 0) rfl, weight_apply m v b p h]
  by_cases e : j = p
  · rw [if_pos e, if_pos e]; rfl
  · rw [if_neg e, if_neg e]; rfl

end Cert.Round

end
-- ==== Proof.Stages.lean ====
module

public import proofs.«01_k».proof.Proof.Round
public import proofs.«01_k».proof.Proof.Gen.KernelIdeal.Frame

@[expose] public section

noncomputable section

/-! The kernel body's value is ten rounds over the tile of log probabilities, then one product with the padded outputs, divided
    by the weights' sum. -/

namespace Cert.Round

open Idealize.ShloMosaic Idealize.ShloMosaic.ValueIdx Cert.KernelIdeal Cert.KernelIdeal.Gen Cert.Top

variable (v : FVec Ideal S256x1024 .f32) (m : FVec Ideal S256x1 .f32) (w : FVec Ideal S256x1024 .f32) (s : FVec Ideal S256x1 .f32)

/-- The mark of the entries equal to their row's greatest. -/
def same : IVec S256x1024 1 := cmpf .oeq v (broadcastTo S256x1024 (cur v) broadcasts_S256x1_S256x1024)

/-- The weights' product with the padded outputs, over the weights' sum. -/
def result (o : FVec Ideal S1000x64 .f32) : FVec Ideal S256x64 .f32 :=
  divf (matmul dot_S256x1024_S1024x64_S256x64_1_0_0_1_n_n none w
      (concatenate S1024x64 0 [⟨S1000x64, o⟩, ⟨S24x64, broadcast S24x64 (Scalar.ofBits .f32 0x00000000#32)⟩]
        concatenates_S1000x64_S24x64_S1024x64_d0) (constant S256x64 .f32 0x00000000#32))
    (broadcastTo S256x64 s broadcasts_S256x1_S256x64)

/-- The mark of the rows' first greatest positions before a round. -/
theorem pay8_eq : k0_pay8 pos (same v) = mark v := rfl
/-- The tile after one round. -/
theorem pay10_eq : k0_pay10 v pos (same v) = next v := by unfold k0_pay10; rw [pay8_eq]; rfl
/-- The rows' greatest entries after one round. -/
theorem pay11_eq : k0_pay11 v pos (same v) = cur (next v) := by unfold k0_pay11; rw [pay10_eq]; rfl
/-- The mark of the rows' first greatest positions after one round. -/
theorem pay12_eq : k0_pay12 v pos (same v) = mark (next v) := by unfold k0_pay12; rw [pay10_eq, pay11_eq]; rfl
/-- The rows' weight after one round. -/
theorem pay13_eq : k0_pay13 v pos m (same v) = weight m (next v) := by unfold k0_pay13; rw [pay11_eq]; rfl
/-- The tile after two rounds. -/
theorem pay14_eq : k0_pay14 v pos (same v) = next (next v) := by unfold k0_pay14; rw [pay10_eq, pay12_eq]; rfl
/-- The rows' greatest entries after two rounds. -/
theorem pay15_eq : k0_pay15 v pos (same v) = cur (next (next v)) := by unfold k0_pay15; rw [pay14_eq]; rfl
/-- The mark of the rows' first greatest positions after two rounds. -/
theorem pay16_eq : k0_pay16 v pos (same v) = mark (next (next v)) := by unfold k0_pay16; rw [pay14_eq, pay15_eq]; rfl
/-- The rows' weight after two rounds. -/
theorem pay17_eq : k0_pay17 v pos m (same v) = weight m (next (next v)) := by unfold k0_pay17; rw [pay15_eq]; rfl
/-- The weights after three more of them are put. -/
theorem pay18_eq : k0_pay18 v pos m w (cur v) (same v) = put m (next (next v)) (put m (next v) (put m v w)) := by
  unfold k0_pay18; rw [pay8_eq, pay12_eq, pay16_eq, pay13_eq, pay17_eq]; rfl
/-- The weights' sum after three more of them are added. -/
theorem pay19_eq : k0_pay19 v pos m s (cur v) (same v) = addf (addf (addf s (weight m v)) (weight m (next v))) (weight m (next (next v))) := by
  unfold k0_pay19; rw [pay13_eq, pay17_eq]; rfl

/-- The tile after one round. -/
theorem pay21_eq : k0_pay21 v (mark v) k0_pay20 = next v := rfl
/-- The rows' greatest entries after one round. -/
theorem pay22_eq : k0_pay22 v (mark v) k0_pay20 = cur (next v) := by unfold k0_pay22; rw [pay21_eq]; rfl
/-- The mark of the rows' first greatest positions after one round. -/
theorem pay23_eq : k0_pay23 pos v (mark v) k0_pay20 = mark (next v) := by unfold k0_pay23; rw [pay21_eq, pay22_eq]; rfl
/-- The rows' weight after one round. -/
theorem pay24_eq : k0_pay24 m v (mark v) k0_pay20 = weight m (next v) := by unfold k0_pay24; rw [pay22_eq]; rfl
/-- The tile after two rounds. -/
theorem pay25_eq : k0_pay25 pos v (mark v) k0_pay20 = next (next v) := by unfold k0_pay25; rw [pay23_eq, pay21_eq]; rfl
/-- The rows' greatest entries after two rounds. -/
theorem pay26_eq : k0_pay26 pos v (mark v) k0_pay20 = cur (next (next v)) := by unfold k0_pay26; rw [pay25_eq]; rfl
/-- The mark of the rows' first greatest positions after two rounds. -/
theorem pay27_eq : k0_pay27 pos v (mark v) k0_pay20 = mark (next (next v)) := by unfold k0_pay27; rw [pay26_eq, pay25_eq]; rfl
/-- The rows' weight after two rounds. -/
theorem pay28_eq : k0_pay28 pos m v (mark v) k0_pay20 = weight m (next (next v)) := by unfold k0_pay28; rw [pay26_eq]; rfl
/-- The weights after two more of them are put. -/
theorem pay29_eq : k0_pay29 pos m v (mark v) w k0_pay20 = put m (next (next v)) (put m (next v) w) := by
  unfold k0_pay29; rw [pay24_eq, pay23_eq, pay28_eq, pay27_eq]; rfl
/-- The weights' sum after two more of them are added. -/
theorem pay30_eq : k0_pay30 pos m v (mark v) s k0_pay20 = addf (addf s (weight m (next v))) (weight m (next (next v))) := by
  unfold k0_pay30; rw [pay24_eq, pay28_eq]
/-- The tile after three rounds. -/
theorem pay31_eq : k0_pay31 pos v (mark v) k0_pay20 = next (next (next v)) := by unfold k0_pay31; rw [pay27_eq, pay25_eq]; rfl
/-- The rows' greatest entries after three rounds. -/
theorem pay32_eq : k0_pay32 pos v (mark v) k0_pay20 = cur (next (next (next v))) := by unfold k0_pay32; rw [pay31_eq]; rfl
/-- The mark of the rows' first greatest positions after three rounds. -/
theorem pay33_eq : k0_pay33 pos v (mark v) k0_pay20 = mark (next (next (next v))) := by unfold k0_pay33; rw [pay32_eq, pay31_eq]; rfl
/-- The rows' weight after three rounds. -/
theorem pay34_eq : k0_pay34 pos m v (mark v) k0_pay20 = weight m (next (next (next v))) := by unfold k0_pay34; rw [pay32_eq]; rfl

/-- The tile after one round. -/
theorem pay35_eq : k0_pay35 v (mark v) = next v := rfl
/-- The rows' greatest entries after one round. -/
theorem pay36_eq : k0_pay36 v (mark v) = cur (next v) := by unfold k0_pay36; rw [pay35_eq]; rfl
/-- The mark of the rows' first greatest positions after one round. -/
theorem pay37_eq : k0_pay37 pos v (mark v) = mark (next v) := by unfold k0_pay37; rw [pay35_eq, pay36_eq]; rfl
/-- The rows' weight after one round. -/
theorem pay38_eq : k0_pay38 m v (mark v) = weight m (next v) := by unfold k0_pay38; rw [pay36_eq]; rfl
/-- The tile after two rounds. -/
theorem pay39_eq : k0_pay39 pos v (mark v) = next (next v) := by unfold k0_pay39; rw [pay37_eq, pay35_eq]; rfl
/-- The rows' greatest entries after two rounds. -/
theorem pay40_eq : k0_pay40 pos v (mark v) = cur (next (next v)) := by unfold k0_pay40; rw [pay39_eq]; rfl
/-- The mark of the rows' first greatest positions after two rounds. -/
theorem pay41_eq : k0_pay41 pos v (mark v) = mark (next (next v)) := by unfold k0_pay41; rw [pay40_eq, pay39_eq]; rfl
/-- The rows' weight after two rounds. -/
theorem pay42_eq : k0_pay42 pos m v (mark v) = weight m (next (next v)) := by unfold k0_pay42; rw [pay40_eq]; rfl
/-- The weights after three more of them are put. -/
theorem pay43_eq : k0_pay43 pos m w v (mark v) (weight m v) = put m (next (next v)) (put m (next v) (put m v w)) := by
  unfold k0_pay43; rw [pay38_eq, pay37_eq, pay42_eq, pay41_eq]; rfl
/-- The weights' sum after three more of them are added. -/
theorem pay44_eq : k0_pay44 pos m s v (mark v) (weight m v)
    = addf (addf (addf s (weight m v)) (weight m (next v))) (weight m (next (next v))) := by
  unfold k0_pay44; rw [pay38_eq, pay42_eq]
/-- The tile after three rounds. -/
theorem pay45_eq : k0_pay45 pos v (mark v) = next (next (next v)) := by unfold k0_pay45; rw [pay41_eq, pay39_eq]; rfl
/-- The rows' greatest entries after three rounds. -/
theorem pay46_eq : k0_pay46 pos v (mark v) = cur (next (next (next v))) := by unfold k0_pay46; rw [pay45_eq]; rfl
/-- The rows' candidate positions after three rounds. -/
theorem pay47_eq : k0_pay47 pos v (mark v) = cand (next (next (next v))) := by unfold k0_pay47; rw [pay46_eq, pay45_eq]; rfl

/-- The last two weights put and added, and the product divided by the sum. -/
theorem pay1_eq (o : FVec Ideal S1000x64 .f32) : k0_pay1 o pos m w s v (cur v) (cand v)
    = result (put m (next v) (put m v w)) (addf (addf s (weight m v)) (weight m (next v))) o := rfl

/-- The tile of log probabilities, the last 24 columns masked. -/
def logp (x : Vec Ideal S256x128 .f32) (mu sd : Vec Ideal S1000x128 .f32) : FVec Ideal S256x1024 .f32 := k0_pay2 x mu sd

/-- The body's value over the input tiles. -/
def body (x : Vec Ideal S256x128 .f32) (mu sd : Vec Ideal S1000x128 .f32) (o : Vec Ideal S1000x64 .f32) : FVec Ideal S256x64 .f32 :=
  result (weights (cur (logp x mu sd)) (logp x mu sd) k0_pay4 10) (total (cur (logp x mu sd)) (logp x mu sd) k0_pay5 10) o

end Cert.Round

end
-- ==== Proof.Rows.lean ====
module

public import proofs.«01_k».proof.Proof.Stages
public import Idealize.ShloMosaic.Lib.MatmulPlain

@[expose] public section

noncomputable section

/-! A row of the kernel body's value: the ten greatest log probabilities of the row, each one's exponential relative to the
    greatest, and the outputs at their positions weighted by them. -/

namespace Cert.Round

open Idealize.ShloMosaic Idealize.ShloMosaic.ValueIdx Cert.KernelIdeal Cert.KernelIdeal.Gen Cert.Top

/-- A number of the extended reals that is not `⊤` and not below 0 multiplies into a sum. -/
theorem sum_mul {ι : Type} (s : Finset ι) (f : ι → EReal) (c : EReal) (h0 : 0 ≤ c) (ht : c ≠ ⊤) :
    (∑ i ∈ s, f i) * c = ∑ i ∈ s, f i * c := by
  classical
  induction s using Finset.induction_on with
  | empty => simp
  | insert a s ha ih =>
    rw [Finset.sum_insert ha, Finset.sum_insert ha, ← ih, mul_comm, EReal.left_distrib_of_nonneg_of_ne_top h0 ht, mul_comm c, mul_comm c]

/-- A sum over the positions of weights that are 0 off the images of an injective family is the sum over the family. -/
theorem sum_support {ι κ : Type} [Fintype ι] [Fintype κ] (e : κ → ι) (he : Function.Injective e) (w o : ι → EReal)
    (hw : ∀ i, (∀ t, e t ≠ i) → w i = 0) : ∑ i, w i * o i = ∑ t, w (e t) * o (e t) := by
  classical
  rw [← Finset.sum_image (s := Finset.univ) (f := fun i => w i * o i) (g := e) (fun a _ b _ h => he h)]
  refine (Finset.sum_subset (Finset.subset_univ _) fun i _ hi => ?_).symm
  rw [hw i (fun t ht => hi (Finset.mem_image.mpr ⟨t, Finset.mem_univ t, ht⟩)), zero_mul]

section Row

variable (v : FVec Ideal S256x1024 .f32) (m : FVec Ideal S256x1 .f32) (w : FVec Ideal S256x1024 .f32) (s : FVec Ideal S256x1 .f32)
variable (b : Fin 256) {n : Nat} (hn : n ≤ 1024) (key : Fin n → EReal)

/-- The row after `r` rounds is the row masked at the first `r` ranks. -/
theorem tile_apply (hf : ∀ j : Fin n, v (ix2 b (j.castLE hn)) = key j) (hp : ∀ j : Fin 1024, n ≤ j.val → v (ix2 b j) = ⊥)
    (hk : ∀ j, key j ≠ ⊥) (r : Nat) (hr : r ≤ n) :
    (fun j => tile v r (ix2 b j)) = masked (fun j => v (ix2 b j)) key r := by
  induction r with
  | zero => rw [masked_zero]; rfl
  | succ r ih =>
    have ih := ih (Nat.le_of_succ_le hr)
    have hF := first_masked hn (fun j => v (ix2 b j)) key hf hp hk ⟨r, hr⟩
    rw [← ih] at hF
    funext j
    show next (tile v r) (ix2 b j) = _
    rw [next_apply _ _ _ hF, ← masked_succ hn (fun j => v (ix2 b j)) key ⟨r, hr⟩ j, ← ih]

/-- The first greatest position of the row after `r` rounds is at rank `r`. -/
theorem first_tile (hf : ∀ j : Fin n, v (ix2 b (j.castLE hn)) = key j) (hp : ∀ j : Fin 1024, n ≤ j.val → v (ix2 b j) = ⊥)
    (hk : ∀ j, key j ≠ ⊥) (r : Fin n) : First (fun j => tile v r.val (ix2 b j)) ((rank key r).castLE hn) := by
  rw [tile_apply v b hn key hf hp hk r.val r.isLt.le]
  exact first_masked hn _ key hf hp hk r

/-- The greatest entry of the row after `r` rounds is the entry at rank `r`. -/
theorem tile_rank (hf : ∀ j : Fin n, v (ix2 b (j.castLE hn)) = key j) (hp : ∀ j : Fin 1024, n ≤ j.val → v (ix2 b j) = ⊥)
    (hk : ∀ j, key j ≠ ⊥) (r : Fin n) : tile v r.val (ix2 b ((rank key r).castLE hn)) = key (rank key r) := by
  refine (congrFun (tile_apply v b hn key hf hp hk r.val r.isLt.le) _).trans ?_
  unfold masked
  rw [if_neg]
  · exact hf _
  rintro ⟨u, hu, he⟩
  rw [rank_injective key (Fin.ext he)] at hu
  exact lt_irrefl _ hu

/-- The weights after `r` rounds: at a position of rank below `r`, its exponential; elsewhere the weights at the start. -/
theorem weights_apply (hf : ∀ j : Fin n, v (ix2 b (j.castLE hn)) = key j) (hp : ∀ j : Fin 1024, n ≤ j.val → v (ix2 b j) = ⊥)
    (hk : ∀ j, key j ≠ ⊥) (r : Nat) (hr : r ≤ n) :
    (∀ u : Fin n, u.val < r → weights m v w r (ix2 b ((rank key u).castLE hn)) = Ideal.exp (key (rank key u) - m (ix2 b 0))) ∧
      ∀ j, (∀ u : Fin n, u.val < r → (rank key u).castLE hn ≠ j) → weights m v w r (ix2 b j) = w (ix2 b j) := by
  induction r with
  | zero => exact ⟨fun u hu => absurd hu (Nat.not_lt_zero _), fun j _ => rfl⟩
  | succ r ih =>
    obtain ⟨ih1, ih2⟩ := ih (Nat.le_of_succ_le hr)
    have hF := first_tile v b hn key hf hp hk ⟨r, hr⟩
    have hput : ∀ j, weights m v w (r + 1) (ix2 b j) = if j = (rank key ⟨r, hr⟩).castLE hn
        then Ideal.exp (key (rank key ⟨r, hr⟩) - m (ix2 b 0)) else weights m v w r (ix2 b j) := fun j => by
      show put m (tile v r) (weights m v w r) (ix2 b j) = _
      rw [put_apply _ _ _ _ _ hF, tile_rank v b hn key hf hp hk ⟨r, hr⟩]
    constructor
    · intro u hu
      rw [hput]
      by_cases e : u = ⟨r, hr⟩
      · rw [e, if_pos rfl]
      · rw [if_neg fun h : Fin.castLE hn (rank key u) = Fin.castLE hn (rank key ⟨r, hr⟩) =>
          e (rank_injective key (Fin.ext (by simpa only [Fin.val_castLE] using congrArg Fin.val h)))]
        exact ih1 u (by have : u.val ≠ r := fun h => e (Fin.ext h); omega)
    · intro j hj
      rw [hput, if_neg fun h => hj ⟨r, hr⟩ (Nat.lt_succ_self r) h.symm]
      exact ih2 j fun u hu => hj u (Nat.lt_succ_of_lt hu)

/-- The weights' sum after `r` rounds: the exponentials at the first `r` ranks. -/
theorem total_apply (hf : ∀ j : Fin n, v (ix2 b (j.castLE hn)) = key j) (hp : ∀ j : Fin 1024, n ≤ j.val → v (ix2 b j) = ⊥)
    (hk : ∀ j, key j ≠ ⊥) (r : Nat) (hr : r ≤ n) :
    total m v s r (ix2 b 0) = s (ix2 b 0) + ∑ u : Fin r, Ideal.exp (key (rank key (u.castLE hr)) - m (ix2 b 0)) := by
  induction r with
  | zero => simp [total]
  | succ r ih =>
    have hF := first_tile v b hn key hf hp hk ⟨r, hr⟩
    rw [Fin.sum_univ_castSucc, ← add_assoc]
    refine (addf_apply _ _ _).trans ?_
    rw [ih (Nat.le_of_succ_le hr), weight_apply _ _ _ _ hF, tile_rank v b hn key hf hp hk ⟨r, hr⟩]
    rfl

end Row

/-- The outputs with 24 rows of 0 below. -/
def padded (o : FVec Ideal S1000x64 .f32) : FVec Ideal S1024x64 .f32 :=
  concatenate S1024x64 0 [⟨S1000x64, o⟩, ⟨S24x64, broadcast S24x64 (Scalar.ofBits .f32 0x00000000#32)⟩]
    concatenates_S1000x64_S24x64_S1024x64_d0

/-- Above row 1000 the padded outputs are the outputs. -/
theorem padded_apply (o : FVec Ideal S1000x64 .f32) (j : Fin 1000) (c : Fin 64) :
    padded o (ix2 (j.castLE (by omega)) c) = o (ix2 j c) := by
  unfold padded
  exact concatenate_pair_apply_left (t := S1024x64) (s₁ := S1000x64) (s₂ := S24x64) 0 o _ _ _ rfl (ix2 j c) (fun a => match a with | 0 => rfl | 1 => rfl)

/-- A column spread over the 64 outputs reads the column. -/
theorem spread64_apply {α : Type} (c : S256x1.Idx → α) (b : Fin 256) (o : Fin 64) :
    broadcastTo S256x64 c broadcasts_S256x1_S256x64 (ix2 b o) = c (ix2 b 0) :=
  broadcastTo_apply c _ _ _ (fun a => by fin_cases a <;> rfl)

/-- The body's last value at a row and an output: the row's product with the padded outputs over the row's sum. -/
theorem result_apply (w : FVec Ideal S256x1024 .f32) (s : FVec Ideal S256x1 .f32) (o : FVec Ideal S1000x64 .f32) (b : Fin 256) (c : Fin 64) :
    result w s o (ix2 b c) = Ideal.div (∑ k : Fin 1024, w (ix2 b k) * padded o (ix2 k c)) (s (ix2 b 0)) := by
  unfold result
  rw [divf_apply, spread64_apply]
  refine congrArg (Ideal.div · _) ?_
  refine (Ideal.matmul_plain_apply none w (padded o) (constant S256x64 .f32 0x00000000#32) b c).trans ?_
  rw [constant_apply, Ideal.ofBits_zero_f32, zero_add]

end Cert.Round

end
-- ==== Proof.LogProb.lean ====
module

public import proofs.«01_k».proof.Proof.Rows

@[expose] public section

noncomputable section

/-! A Gaussian's log probability over 128 features, as a real: the square completed (the kernel's two products and bias) and
    the squared distance (the reference's sum) are one number when the data are real and the deviations positive. -/

namespace Cert.LogProb

open Idealize.ShloMosaic Idealize.ShloMosaic.ValueIdx

/-- A sum of reals, in the extended reals. -/
theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- The circle constant's pattern has a real logarithm. -/
theorem log_circle : ∃ c : ℝ, Ideal.log (Ideal.ofBits .f32 0x40C90FDB#32) = c := by
  have h : ∃ r : ℝ, 0 < r ∧ Ideal.ofBits .f32 0x40C90FDB#32 = r := by
    refine ⟨_, ?_, by simp [Ideal.ofBits, Ideal.ieee]; rfl⟩
    norm_num
  obtain ⟨r, h0, h⟩ := h
  exact ⟨Real.log r, by rw [h, Ideal.log_coe, if_neg (not_le.mpr h0)]⟩

/-- The pattern of one. -/
theorem lit_one : Ideal.ofBits .f32 0x3F800000#32 = ((1 : ℝ) : EReal) := by
  have h : Ideal.ofBits .f32 0x3F800000#32 = ((8388608 * (2 ^ 23)⁻¹ : ℝ) : EReal) := by simp [Ideal.ofBits, Ideal.ieee]
  rw [h]; norm_num

/-- The pattern of one half. -/
theorem lit_half : Ideal.ofBits .f32 0x3F000000#32 = ((1 / 2 : ℝ) : EReal) := by
  have h : Ideal.ofBits .f32 0x3F000000#32 = ((8388608 * (2 ^ 24)⁻¹ : ℝ) : EReal) := by simp [Ideal.ofBits, Ideal.ieee]
  rw [h]; norm_num

/-- The pattern of two. -/
theorem lit_two : Ideal.ofBits .f32 0x40000000#32 = ((2 : ℝ) : EReal) := by
  have h : Ideal.ofBits .f32 0x40000000#32 = ((8388608 * (2 ^ 22)⁻¹ : ℝ) : EReal) := by simp [Ideal.ofBits, Ideal.ieee]
  rw [h]; norm_num

/-- The pattern of 64. -/
theorem lit_64 : Ideal.ofBits .f32 0x42800000#32 = ((64 : ℝ) : EReal) := by
  have h : Ideal.ofBits .f32 0x42800000#32 = ((8388608 * (2 ^ 17)⁻¹ : ℝ) : EReal) := by simp [Ideal.ofBits, Ideal.ieee]
  rw [h]; norm_num

/-- The pattern of minus one half. -/
theorem lit_neg_half : Ideal.ofBits .f32 0xBF000000#32 = ((-(1 / 2) : ℝ) : EReal) := by
  have h : Ideal.ofBits .f32 0xBF000000#32 = ((-(8388608 * (2 ^ 24)⁻¹) : ℝ) : EReal) := by simp [Ideal.ofBits, Ideal.ieee]
  rw [h]; norm_num

/-- The kernel's form: minus half the squares over the variances, the cross product, and the bias. -/
def square (x mu sd : Fin 128 → EReal) : EReal :=
  (Ideal.ofBits .f32 0xBF000000#32 * (∑ d, x d * x d * Ideal.div (Ideal.ofBits .f32 0x3F800000#32) (sd d * sd d))
      + ∑ d, x d * (mu d * Ideal.div (Ideal.ofBits .f32 0x3F800000#32) (sd d * sd d)))
    + ((∑ d, (Ideal.ofBits .f32 0xBF000000#32 * mu d * (mu d * Ideal.div (Ideal.ofBits .f32 0x3F800000#32) (sd d * sd d)) - Ideal.log (sd d)))
        - Ideal.ofBits .f32 0x42800000#32 * Ideal.log (Ideal.ofBits .f32 0x40C90FDB#32))

/-- The reference's form: minus the squared distance over twice the variance, less the logarithms, feature by feature. -/
def distance (x mu sd : Fin 128 → EReal) : EReal :=
  ∑ d, (Ideal.div (-((x d - mu d) * (x d - mu d))) (Ideal.ofBits .f32 0x40000000#32 * (sd d * sd d)) - Ideal.log (sd d)
    - Ideal.ofBits .f32 0x3F000000#32 * Ideal.log (Ideal.ofBits .f32 0x40C90FDB#32))

/-- On real data and positive deviations the two forms are one real. -/
theorem square_eq_distance (x mu sd : Fin 128 → ℝ) (hs : ∀ d, 0 < sd d) :
    ∃ r : ℝ, square (fun d => x d) (fun d => mu d) (fun d => sd d) = r ∧ distance (fun d => x d) (fun d => mu d) (fun d => sd d) = r := by
  obtain ⟨c, hc⟩ := log_circle
  refine ⟨∑ d, (-((x d - mu d) * (x d - mu d)) * (1 / (2 * (sd d * sd d))) - Real.log (sd d) - 1 / 2 * c), ?_, ?_⟩
  · unfold square
    rw [hc, lit_neg_half, lit_one, lit_64]
    have h1 : ∀ d, Ideal.div ((1 : ℝ) : EReal) ((sd d * sd d : ℝ) : EReal) = ((1 / (sd d * sd d) : ℝ) : EReal) := fun d => by
      rw [Ideal.div_coe (mul_pos (hs d) (hs d)).ne', ← EReal.coe_mul, one_mul]
    have h2 : ∀ d, Ideal.log (sd d : EReal) = (Real.log (sd d) : EReal) := fun d => by rw [Ideal.log_coe, if_neg (not_le.mpr (hs d))]
    simp only [h1, h2, ← EReal.coe_mul, ← EReal.coe_sub, coe_sum, ← EReal.coe_add]
    refine congrArg Real.toEReal ?_
    have h64 : (64 : ℝ) * c = ∑ _d : Fin 128, 1 / 2 * c := by rw [Finset.sum_const]; simp; ring
    rw [h64, Finset.mul_sum, ← Finset.sum_add_distrib, ← Finset.sum_sub_distrib, ← Finset.sum_add_distrib]
    refine Finset.sum_congr rfl fun d _ => ?_
    have := (hs d).ne'
    field_simp
    ring
  · unfold distance
    rw [hc, lit_two, lit_half]
    have h1 : ∀ d, Ideal.div ((-((x d - mu d) * (x d - mu d)) : ℝ) : EReal) ((2 * (sd d * sd d) : ℝ) : EReal)
        = ((-((x d - mu d) * (x d - mu d)) * (1 / (2 * (sd d * sd d))) : ℝ) : EReal) := fun d => by
      rw [Ideal.div_coe (mul_pos two_pos (mul_pos (hs d) (hs d))).ne', ← EReal.coe_mul]
    have h2 : ∀ d, Ideal.log (sd d : EReal) = (Real.log (sd d) : EReal) := fun d => by rw [Ideal.log_coe, if_neg (not_le.mpr (hs d))]
    simp only [h1, h2, ← EReal.coe_mul, ← EReal.coe_sub, ← EReal.coe_neg, coe_sum]

end Cert.LogProb

namespace Cert.Round

open Idealize.ShloMosaic Idealize.ShloMosaic.ValueIdx Cert.KernelIdeal Cert.KernelIdeal.Gen Cert.Top

variable (x : Vec Ideal S256x128 .f32) (mu sd : Vec Ideal S1000x128 .f32)

/-- The index of a component's feature over its component. -/
theorem lift_feature (j : Fin 1000) (k : Fin 128) : reduces_S1000x128_S1000.lift (ix1 j) k = ix2 j k := by
  rw [eq_ix2 (reduces_S1000x128_S1000.lift (ix1 j) k)]
  rfl

/-- The tile's first 1000 columns: the log probability of a row under a component, as two products and a bias. -/
theorem logp_apply (b : Fin 256) (j : Fin 1000) (hj : 1000 ≤ 1024) :
    logp x mu sd (ix2 b (j.castLE hj)) = LogProb.square (fun d => x (ix2 b d)) (fun d => mu (ix2 j d)) (fun d => sd (ix2 j d)) := by
  unfold logp k0_pay2
  refine (concatenate_pair_apply_left (t := S256x1024) (s₁ := S256x1000) (s₂ := S256x24) 1 _ _ _ _ rfl (ix2 b j)
    (fun a => match a with | 0 => rfl | 1 => rfl)).trans ?_
  rw [addf_apply, addf_apply, mulf_apply, broadcast_apply,
    broadcastTo_apply _ _ (ix2 b j) (ix2 (0 : Fin 1) j) (fun a => by fin_cases a <;> rfl),
    shapeCast_apply _ _ (ix2 (0 : Fin 1) j) (ix1 j) (by rw [Shape.rowMajor_val_one, Shape.rowMajor_val_two]; simp),
    subf_apply, broadcast_apply]
  unfold LogProb.square
  refine congrArg₂ (· + ·) (congrArg₂ (· + ·) (congrArg₂ (· * ·) rfl ?_) ?_) (congrArg₂ (· - ·) ?_ rfl)
  · refine (Ideal.matmul_transposedRhs_apply (some .fp32) _ _ (constant S256x1000 .f32 0x00000000#32) b j).trans ?_
    rw [constant_apply, Ideal.ofBits_zero_f32, zero_add]
    rfl
  · refine (Ideal.matmul_transposedRhs_apply (some .fp32) _ _ (constant S256x1000 .f32 0x00000000#32) b j).trans ?_
    rw [constant_apply, Ideal.ofBits_zero_f32, zero_add]
    rfl
  · refine (Ideal.multiReduction_add_single _ _ _ _ _ (ix1 j)).trans ?_
    refine Finset.sum_congr rfl fun k _ => ?_
    exact (congrArg (subf (F := Ideal) (s := S1000x128) (φ := .f32) _ _) (lift_feature j k)).trans rfl

/-- The tile's last 24 columns are masked. -/
theorem logp_pad (b : Fin 256) (j : Fin 1024) (hj : 1000 ≤ j.val) : logp x mu sd (ix2 b j) = ⊥ := by
  unfold logp k0_pay2
  refine (concatenate_pair_apply_right (t := S256x1024) (s₁ := S256x1000) (s₂ := S256x24) 1 _ _ _ _ rfl rfl
    (ix2 b (⟨j.val - 1000, by have := j.isLt; omega⟩ : Fin 24)) (fun a => match a with | 0 => fun _ => rfl | 1 => fun h => absurd rfl h) ?_).trans ?_
  · show j.val - 1000 + 1000 = j.val
    omega
  · exact mask_eq

end Cert.Round

end
-- ==== Proof.KernelRow.lean ====
module

public import proofs.«01_k».proof.Proof.LogProb
public import proofs.«01_k».proof.Proof.Gen.KernelIdeal.Value

@[expose] public section

noncomputable section

/-! What the kernel body leaves in a row of its output block. -/

namespace Cert.Round

open Idealize.ShloMosaic Idealize.ShloMosaic.ValueIdx Cert.KernelIdeal Cert.KernelIdeal.Gen Cert.Top

/-- The offsets of the body's loads and of its store are 0. -/
theorem no_offset : (![0, 0] : Fin 2 → Nat) = fun _ => 0 := by
  funext a; match a with | ⟨0, _⟩ => rfl | ⟨1, _⟩ => rfl

/-- The output block's stored value is the body's value of the loaded blocks. -/
theorem out_eq (x : Vec Ideal S256x128 .f32) (mu sd : Vec Ideal S1000x128 .f32) (o : Vec Ideal S1000x64 .f32) :
    out0_4 (F := Ideal) x mu sd o = body x mu sd o := by
  have h48 : k0_pay48 x mu sd o = pos := rfl
  have h49 : k0_pay49 x mu sd o = logp x mu sd := by
    unfold k0_pay49 logp
    rw [View.ld_unit_zero (S := S256x128) no_offset, View.ld_unit_zero (S := S1000x128) no_offset,
      View.ld_unit_zero (S := S1000x128) no_offset]
  have h50 : k0_pay50 x mu sd o = cur (logp x mu sd) := by rw [← h49]; rfl
  have h51 : k0_pay51 x mu sd o = cur (logp x mu sd) := by rw [← h49]; rfl
  have h52 : k0_pay52 x mu sd o = same (logp x mu sd) := by rw [← h49]; rfl
  have h53 : k0_pay53 x mu sd o = next (next (logp x mu sd)) := by unfold k0_pay53; rw [h48, h49, h52, pay14_eq]
  have h54 : k0_pay54 x mu sd o = mark (next (next (logp x mu sd))) := by unfold k0_pay54; rw [h48, h49, h52, pay16_eq]
  have h55 : k0_pay55 x mu sd o = k0_pay20 := rfl
  have h56 : k0_pay56 x mu sd o = next (next (next (next (next (logp x mu sd))))) := by
    unfold k0_pay56; rw [h48, h53, h54, h55, pay31_eq]
  have h57 : k0_pay57 x mu sd o = mark (next (next (next (next (next (logp x mu sd)))))) := by
    unfold k0_pay57; rw [h48, h53, h54, h55, pay33_eq]
  have h58 : k0_pay58 x mu sd o = weight (cur (logp x mu sd)) (next (next (next (next (next (logp x mu sd)))))) := by
    unfold k0_pay58; rw [h48, h50, h53, h54, h55, pay34_eq]
  unfold out0_4
  refine (View.canon_unit_zero (S := S256x64) no_offset _ _).trans ?_
  rw [View.ld_unit_zero (S := S1000x64) no_offset, h48, h49, h50, h51, h52, h53, h54, h55, h56, h57, h58, pay18_eq, pay19_eq,
    pay29_eq, pay30_eq, pay43_eq, pay44_eq, pay45_eq, pay46_eq, pay47_eq, pay1_eq]
  rfl

/-- The body's value at a row and an output, the row's entries given by `key` and masked from column `n` on: the outputs at the
    ten first ranks weighted by the exponentials relative to the first, over the exponentials' sum. -/
theorem quotient_apply (v : FVec Ideal S256x1024 .f32) (o : FVec Ideal S1000x64 .f32) (b : Fin 256) (c : Fin 64) {n : Nat}
    (hn : n ≤ 1024) (key : Fin n → EReal) (h10 : 10 ≤ n) (hf : ∀ j : Fin n, v (ix2 b (j.castLE hn)) = key j)
    (hp : ∀ j : Fin 1024, n ≤ j.val → v (ix2 b j) = ⊥) (hk : ∀ j, key j ≠ ⊥) :
    result (weights (cur v) v k0_pay4 10) (total (cur v) v k0_pay5 10) o (ix2 b c)
      = Ideal.div (∑ t : Fin 10, Ideal.exp (key (rank key (t.castLE h10)) - key (rank key ((0 : Fin 10).castLE h10)))
            * padded o (ix2 ((rank key (t.castLE h10)).castLE hn) c))
          (∑ t : Fin 10, Ideal.exp (key (rank key (t.castLE h10)) - key (rank key ((0 : Fin 10).castLE h10)))) := by
  have h0 : cur v (ix2 b 0) = key (rank key ((0 : Fin 10).castLE h10)) := by
    have hF := first_tile v b hn key hf hp hk ((0 : Fin 10).castLE h10)
    have hT := tile_rank v b hn key hf hp hk ((0 : Fin 10).castLE h10)
    exact (cur_apply v b _ hF).trans hT
  have hz4 : ∀ j, (k0_pay4 : FVec Ideal S256x1024 .f32) j = 0 := fun j => Ideal.ofBits_zero_f32
  have hz5 : (k0_pay5 : FVec Ideal S256x1 .f32) (ix2 b 0) = 0 := Ideal.ofBits_zero_f32
  obtain ⟨hw1, hw2⟩ := weights_apply v (cur v) k0_pay4 b hn key hf hp hk 10 h10
  have hs := total_apply v (cur v) k0_pay5 b hn key hf hp hk 10 h10
  rw [result_apply, hs, hz5, zero_add, h0]
  refine congrArg (fun z => Ideal.div z (∑ t : Fin 10, Ideal.exp (key (rank key (t.castLE h10)) - key (rank key ((0 : Fin 10).castLE h10))))) ?_
  refine (sum_support (fun t : Fin 10 => (rank key (t.castLE h10)).castLE hn)
    (fun t u h => Fin.castLE_injective h10 (rank_injective key (Fin.castLE_injective hn h))) _ _ fun j hj => ?_).trans ?_
  · rw [hw2 j fun u hu => hj ⟨u.val, hu⟩, hz4]
  · refine Finset.sum_congr rfl fun t _ => ?_
    rw [hw1 (t.castLE h10) t.isLt, h0]

end Cert.Round

end
-- ==== Proof.KernelArr.lean ====
module

public import proofs.«01_k».proof.Proof.KernelRow

@[expose] public section

noncomputable section

/-! The kernel's output array after the run, row by row: the blocks of 256 rows put together. -/

namespace Cert.Round

open Idealize.ShloMosaic Idealize.ShloMosaic.TcCoe Idealize.ShloMosaic.ValueIdx Idealize.SL.Sem Cert.KernelIdeal Cert.KernelIdeal.Gen Cert.Top
open Idealize.ShloMosaic.Pipeline (Dat)

/-- The row of the array that row `b` of block `t` is. -/
def rowOf (t : Fin 4) (b : Fin 256) : Fin 1024 := ⟨t.val * 256 + b.val, by have := t.isLt; have := b.isLt; omega⟩

/-- The block a row is in. -/
def blockOf (r : Fin 1024) : Fin 4 := ⟨r.val / 256, by have := r.isLt; omega⟩

/-- The row within its block. -/
def withinOf (r : Fin 1024) : Fin 256 := ⟨r.val % 256, Nat.mod_lt _ (by omega)⟩

/-- A block of 256 rows of the input. -/
def rows (x : Vec Ideal S1024x128 .f32) (t : Fin 4) : Vec Ideal S256x128 .f32 := fun i => x (ix2 (rowOf t (i 0)) (i 1))

/-- The output array: each row from the body's value over its block. -/
def arr (x : Vec Ideal S1024x128 .f32) (mu sd : Vec Ideal S1000x128 .f32) (o : Vec Ideal S1000x64 .f32) : Vec Ideal S1024x64 .f32 :=
  fun i => body (rows x (blockOf (i 0))) mu sd o (ix2 (withinOf (i 0)) (i 1))

variable (m : (ℓ : Loc nD τ sig) → Buf (Elt Ideal) ℓ) (ρ : Dev nD → PrngReg)

/-- The block index of each window that moves is the point's number, and the other windows stay. -/
theorem index_facts : ∀ t : Fin cfg0.N, (win0_4.index t 0 = t.val ∧ win0_4.index t 1 = 0) ∧ (win0_0.index t 0 = t.val ∧ win0_0.index t 1 = 0)
    ∧ (win0_1.index t 0 = 0 ∧ win0_1.index t 1 = 0) ∧ (win0_2.index t 0 = 0 ∧ win0_2.index t 1 = 0)
    ∧ (win0_3.index t 0 = 0 ∧ win0_3.index t 1 = 0) :=
  (by decide +kernel : ∀ t : Fin grid0.N, (win0_4.index t 0 = t.val ∧ win0_4.index t 1 = 0) ∧ (win0_0.index t 0 = t.val ∧ win0_0.index t 1 = 0)
    ∧ (win0_1.index t 0 = 0 ∧ win0_1.index t 1 = 0) ∧ (win0_2.index t 0 = 0 ∧ win0_2.index t 1 = 0)
    ∧ (win0_3.index t 0 = 0 ∧ win0_3.index t 1 = 0))

/-- The grid point of a block. -/
def point (t : Fin 4) : Fin cfg0.N := ⟨t.val, lt_of_lt_of_eq t.isLt (show 4 = cfg0.N from N_0.symm)⟩

/-- The output block's index in the array. -/
theorem emb4 (t : Fin 4) (j : S256x64.Idx) :
    (((cfg0.win 4).blk (point t)).view.emb j : S1024x64.Idx) = (ix2 (rowOf t (j 0)) (j 1) : S1024x64.Idx) := by
  have h := index_facts (point t)
  funext a
  refine Fin.ext ?_
  match a with
  | ⟨0, _⟩ =>
    show win0_4.index _ 0 * 256 + 1 * (j 0).val = t.val * 256 + (j 0).val
    rw [h.1.1, one_mul]
    rfl
  | ⟨1, _⟩ =>
    show win0_4.index _ 1 * 64 + 1 * (j 1).val = (j 1).val
    rw [h.1.2, one_mul, zero_mul, zero_add]

/-- The input block is 256 rows of the input. -/
theorem iblk0_eq (c : Dev nD) (t : Fin 4) :
    (iblk m c 0 (point t) : S256x128.Idx → Elt Ideal .f32)
      = rows (m ((c : Thread nD τ).loc main_arg0)) t := by
  have h := index_facts (point t)
  funext j
  unfold iblk rows
  rw [View.read_apply]
  refine congrArg (V m c main_arg0) (funext fun a => Fin.ext ?_)
  match a with
  | ⟨0, _⟩ =>
    show win0_0.index _ 0 * 256 + 1 * (j 0).val = t.val * 256 + (j 0).val
    rw [h.2.1.1, one_mul]
    rfl
  | ⟨1, _⟩ =>
    show win0_0.index _ 1 * 128 + 1 * (j 1).val = (j 1).val
    rw [h.2.1.2, one_mul, zero_mul, zero_add]

/-- The means' block is the means. -/
theorem iblk1_eq (c : Dev nD) (t : Fin cfg0.N) :
    (iblk m c 1 t : S1000x128.Idx → Elt Ideal .f32) = m ((c : Thread nD τ).loc main_arg1) := by
  have h := index_facts t
  funext j
  unfold iblk
  rw [View.read_apply]
  refine congrArg (V m c main_arg1) (funext fun a => Fin.ext ?_)
  match a with
  | ⟨0, _⟩ =>
    show win0_1.index _ 0 * 1000 + 1 * (j 0).val = (j 0).val
    rw [h.2.2.1.1, one_mul, zero_mul, zero_add]
  | ⟨1, _⟩ =>
    show win0_1.index _ 1 * 128 + 1 * (j 1).val = (j 1).val
    rw [h.2.2.1.2, one_mul, zero_mul, zero_add]

/-- The deviations' block is the deviations. -/
theorem iblk2_eq (c : Dev nD) (t : Fin cfg0.N) :
    (iblk m c 2 t : S1000x128.Idx → Elt Ideal .f32) = m ((c : Thread nD τ).loc main_arg2) := by
  have h := index_facts t
  funext j
  unfold iblk
  rw [View.read_apply]
  refine congrArg (V m c main_arg2) (funext fun a => Fin.ext ?_)
  match a with
  | ⟨0, _⟩ =>
    show win0_2.index _ 0 * 1000 + 1 * (j 0).val = (j 0).val
    rw [h.2.2.2.1.1, one_mul, zero_mul, zero_add]
  | ⟨1, _⟩ =>
    show win0_2.index _ 1 * 128 + 1 * (j 1).val = (j 1).val
    rw [h.2.2.2.1.2, one_mul, zero_mul, zero_add]

/-- The outputs' block is the outputs. -/
theorem iblk3_eq (c : Dev nD) (t : Fin cfg0.N) :
    (iblk m c 3 t : S1000x64.Idx → Elt Ideal .f32) = m ((c : Thread nD τ).loc main_arg3) := by
  have h := index_facts t
  funext j
  unfold iblk
  rw [View.read_apply]
  refine congrArg (V m c main_arg3) (funext fun a => Fin.ext ?_)
  match a with
  | ⟨0, _⟩ =>
    show win0_3.index _ 0 * 1000 + 1 * (j 0).val = (j 0).val
    rw [h.2.2.2.2.1, one_mul, zero_mul, zero_add]
  | ⟨1, _⟩ =>
    show win0_3.index _ 1 * 64 + 1 * (j 1).val = (j 1).val
    rw [h.2.2.2.2.2, one_mul, zero_mul, zero_add]

/-- The block and the row within it of a row of a block. -/
theorem block_row (t : Fin 4) (b : Fin 256) : blockOf (rowOf t b) = t ∧ withinOf (rowOf t b) = b := by
  have := t.isLt; have := b.isLt
  constructor <;> refine Fin.ext ?_
  · show (t.val * 256 + b.val) / 256 = t.val; omega
  · show (t.val * 256 + b.val) % 256 = b.val; omega

/-- What a point writes back is its block of the output array. -/
theorem flushed_eq (c : Dev nD) (t : Fin cfg0.N) :
    (dats m 0 c).flushed 4 t = ((cfg0.win 4).blk t).view.read (Elt Ideal)
      (arr (m ((c : Thread nD τ).loc main_arg0)) (m ((c : Thread nD τ).loc main_arg1)) (m ((c : Thread nD τ).loc main_arg2))
        (m ((c : Thread nD τ).loc main_arg3))) := by
  obtain ⟨t, rfl⟩ : ∃ u : Fin 4, point u = t := ⟨⟨t.val, lt_of_lt_of_eq t.isLt (show cfg0.N = 4 from N_0)⟩, rfl⟩
  refine (Value.flushed4 m c (point t)).trans ?_
  have e : out0_4 (F := Ideal) (iblk m c 0 (point t)) (iblk m c 1 (point t)) (iblk m c 2 (point t)) (iblk m c 3 (point t))
      = body (rows (m ((c : Thread nD τ).loc main_arg0)) t) (m ((c : Thread nD τ).loc main_arg1))
        (m ((c : Thread nD τ).loc main_arg2)) (m ((c : Thread nD τ).loc main_arg3)) := by
    refine (out_eq _ _ _ _).trans ?_
    have e0 := iblk0_eq m c t
    rw [iblk1_eq, iblk2_eq, iblk3_eq]
    exact congrArg (fun z => body z _ _ _) e0
  refine (congrArg ((cfg0.win 4).cut (grid0.coords (point t))) e).trans ?_
  funext j
  obtain ⟨h1, h2⟩ := block_row t (j 0)
  refine Eq.trans ?_ (congrArg (arr (m ((c : Thread nD τ).loc main_arg0)) (m ((c : Thread nD τ).loc main_arg1))
    (m ((c : Thread nD τ).loc main_arg2)) (m ((c : Thread nD τ).loc main_arg3))) (emb4 t j).symm)
  show body (rows _ t) _ _ _ j = body (rows _ (blockOf (rowOf t (j 0)))) _ _ _ (ix2 (withinOf (rowOf t (j 0))) (j 1))
  rw [h1, h2]
  exact congrArg _ (eq_ix2 j)

/-- A row of a block is in the block. -/
theorem mem4 (t : Fin 4) (b : Fin 256) (o : Fin 64) :
    (ix2 (rowOf t b) o : S1024x64.Idx) ∈ ((cfg0.win 4).blk (point t)).view.set := by
  have h := ((cfg0.win 4).blk (point t)).view.emb_mem_set (ix2 b o : S256x64.Idx)
  rw [emb4 t (ix2 b o)] at h
  exact h

/-- The output array after the run. -/
theorem final_eq (c : Dev nD) : (dats m 0 c).arrAt 4 cfg0.N
    = arr (m ((c : Thread nD τ).loc main_arg0)) (m ((c : Thread nD τ).loc main_arg1)) (m ((c : Thread nD τ).loc main_arg2))
        (m ((c : Thread nD τ).loc main_arg3)) := by
  refine (dats m 0 c).arrAt_eq_of_cover 4 _ (fun t _ => flushed_eq m c t) fun (i : S1024x64.Idx) => ?_
  refine ⟨point (blockOf (i 0)), flush0_4 _, ?_⟩
  have h := mem4 (blockOf (i 0)) (withinOf (i 0)) (i 1)
  have e : (ix2 (rowOf (blockOf (i 0)) (withinOf (i 0))) (i 1) : S1024x64.Idx) = i := by
    refine Eq.trans ?_ (eq_ix2 i).symm
    refine congrArg (fun r : Fin 1024 => (ix2 r (i 1) : S1024x64.Idx)) (Fin.ext ?_)
    show (i 0).val / 256 * 256 + (i 0).val % 256 = (i 0).val
    omega
  rwa [e] at h

end Cert.Round

end
-- ==== Proof.RefTop.lean ====
module

public import proofs.«01_k».proof.Proof.Order
public import Idealize.ShloMosaic.Lib.ValueIdx
public import Idealize.ShloMosaic.Lib.Pipeline.Value

@[expose] public section

noncomputable section

/-! The reference's three index-dependent operations read at an index, over arbitrary extents: the greatest entries of each
    row, their positions, and the rows of a table at given positions. -/

namespace Cert.Reference

open Idealize.ShloMosaic Idealize.ShloMosaic.ValueIdx Cert.Top

section TopK
variable {R N K : Nat}

/-- Moving along the columns keeps the row. -/
theorem along_column (b : Fin R) (r k : Fin N) : Shape.Idx.along (ix2 b r) 1 k = ix2 b k := by
  unfold Shape.Idx.along
  funext a
  match a with
  | ⟨0, _⟩ => exact Function.update_of_ne (fun h => absurd (congrArg Fin.val h) Nat.zero_ne_one) _ _
  | ⟨1, _⟩ => exact Function.update_self _ _ _

/-- The sort's order on two columns of a row is the order by descending entry. -/
theorem sorted_rank (x : FVec Ideal ⟨2, ![R, N]⟩ .f32) (b : Fin R) (r : Fin N) :
    (sortedFrom (fun k k' : Fin N => FloatOps.cmpfTotal (F := Ideal) (φ := .f32) .gt (x (Shape.Idx.along (ix2 b r) 1 k))
      (x (Shape.Idx.along (ix2 b r) 1 k')) == 1#1) r : Fin N) = rank (fun j => x (ix2 b j)) r := by
  unfold rank
  congr 1
  funext k k'
  rw [along_column, along_column]
  show (BitVec.ofBool (decide (x (ix2 b k') < x (ix2 b k))) == 1#1) = decide (x (ix2 b k') < x (ix2 b k))
  cases decide (x (ix2 b k') < x (ix2 b k)) <;> rfl

/-- Column `t` of the greatest entries of row `b`: the entry of rank `t`. -/
theorem top_value (hK : K ≤ N) (x : FVec Ideal ⟨2, ![R, N]⟩ .f32)
    (h : (⟨2, ![R, N]⟩ : Shape).Slices (fun _ => 0) ⟨2, ![R, K]⟩) (b : Fin R) (t : Fin K) :
    (Host.topK ⟨2, ![R, K]⟩ 1 (FloatOps.cmpfTotal .gt) x h).1 (ix2 b t)
      = x (ix2 b (rank (fun j => x (ix2 b j)) (t.castLE hK))) := by
  show extractStridedSlice ⟨2, ![R, K]⟩ (fun _ => 0) (Host.sort2 ⟨2, ![R, N]⟩ 1 (fun l r => FloatOps.cmpfTotal .gt l.1 r.1) x
    (fun i => if hd : 1 < (⟨2, ![R, N]⟩ : Shape).rank then iotaInDim ⟨2, ![R, N]⟩ 32 ⟨1, hd⟩ i else 0#32)).1 h (ix2 b t) = _
  refine (extractStridedSlice_apply (fun _ => 0) _ h (ix2 b t) (ix2 b (t.castLE hK))
    (fun a => match a with | ⟨0, _⟩ => (Nat.zero_add _).symm | ⟨1, _⟩ => (Nat.zero_add _).symm)).trans ?_
  unfold Host.sort2
  rw [dif_pos (show 1 < (⟨2, ![R, N]⟩ : Shape).rank from Nat.one_lt_two)]
  exact (congrArg (fun k => x (Shape.Idx.along (ix2 b (t.castLE hK)) 1 k)) (sorted_rank x b (t.castLE hK))).trans
    (congrArg x (along_column b (t.castLE hK) _))

/-- Column `t` of the positions of the greatest entries of row `b`: the position of rank `t`, as a word. -/
theorem top_position (hK : K ≤ N) (x : FVec Ideal ⟨2, ![R, N]⟩ .f32)
    (h : (⟨2, ![R, N]⟩ : Shape).Slices (fun _ => 0) ⟨2, ![R, K]⟩) (b : Fin R) (t : Fin K) :
    (Host.topK ⟨2, ![R, K]⟩ 1 (FloatOps.cmpfTotal .gt) x h).2 (ix2 b t)
      = BitVec.ofNat 32 (rank (fun j => x (ix2 b j)) (t.castLE hK)).val := by
  show extractStridedSlice ⟨2, ![R, K]⟩ (fun _ => 0) (Host.sort2 ⟨2, ![R, N]⟩ 1 (fun l r => FloatOps.cmpfTotal .gt l.1 r.1) x
    (fun i => if hd : 1 < (⟨2, ![R, N]⟩ : Shape).rank then iotaInDim ⟨2, ![R, N]⟩ 32 ⟨1, hd⟩ i else 0#32)).2 h (ix2 b t) = _
  refine (extractStridedSlice_apply (fun _ => 0) _ h (ix2 b t) (ix2 b (t.castLE hK))
    (fun a => match a with | ⟨0, _⟩ => (Nat.zero_add _).symm | ⟨1, _⟩ => (Nat.zero_add _).symm)).trans ?_
  unfold Host.sort2
  rw [dif_pos (show 1 < (⟨2, ![R, N]⟩ : Shape).rank from Nat.one_lt_two)]
  refine (congrArg (fun k => (fun i => if hd : 1 < (⟨2, ![R, N]⟩ : Shape).rank then iotaInDim ⟨2, ![R, N]⟩ 32 ⟨1, hd⟩ i else 0#32)
    (Shape.Idx.along (ix2 b (t.castLE hK)) 1 k)) (sorted_rank x b (t.castLE hK))).trans ?_
  rw [along_column]
  exact dif_pos (show 1 < (⟨2, ![R, N]⟩ : Shape).rank from Nat.one_lt_two)

end TopK

section Rows
variable {α : Type} {N C B T : Nat}

/-- The table's row dimensions: start indices `[B, T, 1]`, one row of `C` entries per start index. -/
abbrev rowDims (N C B T : Nat) (wf : GatherDims.WF ⟨2, ![N, C]⟩ ⟨3, ![B, T, 1]⟩ ⟨3, ![B, T, C]⟩ [2] [0] [] [0] [] 2 ![1, C]) :
    GatherDims ⟨2, ![N, C]⟩ ⟨3, ![B, T, 1]⟩ ⟨3, ![B, T, C]⟩ where
  offsetDims := [2]
  collapsedSliceDims := [0]
  operandBatchingDims := []
  startIndicesBatchingDims := []
  startIndexMap := [0]
  indexVectorDim := 2
  sliceSizes := ![1, C]
  wf := wf

/-- Entry (b, t, c) of the rows read is entry c of the row that the start index at (b, t, 0) names, when it names one. -/
theorem rows_apply (wf : GatherDims.WF ⟨2, ![N, C]⟩ ⟨3, ![B, T, 1]⟩ ⟨3, ![B, T, C]⟩ [2] [0] [] [0] [] 2 ![1, C])
    (o : (⟨2, ![N, C]⟩ : Shape).Idx → α) (idx : IVec ⟨3, ![B, T, 1]⟩ 32) (b : Fin B) (t : Fin T) (c : Fin C) (r : Fin N)
    (h : (idx (ix3 b t 0)).toInt = r.val) :
    Host.gather (rowDims N C B T wf) o idx (ix3 b t c) = o (ix2 r c) := by
  unfold Host.gather
  congr 1
  have hsi : (rowDims N C B T wf).siIdx (ix3 b t c) ⟨List.idxOf (0 : Fin 2) (rowDims N C B T wf).startIndexMap,
      List.idxOf_lt_length_iff.2 (List.mem_singleton.mpr rfl)⟩ = ix3 b t 0 := by
    funext a; refine Fin.ext ?_
    match a with
    | ⟨0, _⟩ => rfl
    | ⟨1, _⟩ => rfl
    | ⟨2, _⟩ => rfl
  funext a
  refine Fin.ext ?_
  match a with
  | ⟨0, _⟩ =>
    show (rowDims N C B T wf).start (ix3 b t c) idx 0 + (rowDims N C B T wf).batchCoord (ix3 b t c) 0
      + (rowDims N C B T wf).offCoord (ix3 b t c) 0 = r.val
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (show (0 : Fin 2) ∈ (rowDims N C B T wf).startIndexMap from List.mem_singleton.mpr rfl), hsi, h]
    show min r.val (N - 1) + 0 + 0 = r.val
    have := r.isLt
    omega
  | ⟨1, _⟩ =>
    show (rowDims N C B T wf).start (ix3 b t c) idx 1 + (rowDims N C B T wf).batchCoord (ix3 b t c) 1
      + (rowDims N C B T wf).offCoord (ix3 b t c) 1 = c.val
    rw [GatherDims.batchCoord_eq_zero _ _ _ List.not_mem_nil]
    unfold GatherDims.start
    rw [dif_neg (show (1 : Fin 2) ∉ (rowDims N C B T wf).startIndexMap from fun h => absurd (congrArg Fin.val (List.mem_singleton.mp h)) Nat.one_ne_zero)]
    unfold GatherDims.offCoord
    rw [dif_pos ((GatherDims.mem_sKept _ _).mpr ⟨fun h => absurd (congrArg Fin.val (List.mem_singleton.mp h)) Nat.one_ne_zero, List.not_mem_nil⟩)]
    simp only [Nat.zero_add]
    rfl

end Rows

end Cert.Reference

end
-- ==== Proof.RefValue.lean ====
module

public import proofs.«01_k».proof.Proof.RefTop
public import proofs.«01_k».proof.Proof.LogProb
public import proofs.«01_k».proof.Proof.Gen.ReferenceIdeal.Run

@[expose] public section

noncomputable section

/-! The reference's result at a row and an output: the outputs at the ten first ranks of the row's log probabilities, each
    weighted by its share of the exponentials. -/

namespace Cert.Reference

open Idealize.ShloMosaic Idealize.ShloMosaic.TcCoe Idealize.ShloMosaic.ValueIdx Idealize.SL.Sem Cert.ReferenceIdeal Cert.ReferenceIdeal.Gen Cert.Top

/-- The joint log probabilities. -/
def joint (x : FVec Ideal S1024x128 .f32) (mu sd : FVec Ideal S1000x128 .f32) : FVec Ideal S1024x1000 .f32 :=
  Host.reduceAdd (subf (subf (Host.divf (Host.negf (mulf
    (subf (broadcastInDim S1024x1000x128 ![0, 1, 2] bcast_S1024x1x128_S1024x1000x128_0_1_2 (broadcastInDim S1024x1x128 ![0, 2] bcast_S1024x128_S1024x1x128_0_2 x))
      (broadcastInDim S1024x1000x128 ![0, 1, 2] bcast_S1x1000x128_S1024x1000x128_0_1_2 (broadcastInDim S1x1000x128 ![1, 2] bcast_S1000x128_S1x1000x128_1_2 mu)))
    (subf (broadcastInDim S1024x1000x128 ![0, 1, 2] bcast_S1024x1x128_S1024x1000x128_0_1_2 (broadcastInDim S1024x1x128 ![0, 2] bcast_S1024x128_S1024x1x128_0_2 x))
      (broadcastInDim S1024x1000x128 ![0, 1, 2] bcast_S1x1000x128_S1024x1000x128_0_1_2 (broadcastInDim S1x1000x128 ![1, 2] bcast_S1000x128_S1x1000x128_1_2 mu)))))
    (broadcastInDim S1024x1000x128 ![0, 1, 2] bcast_S1x1000x128_S1024x1000x128_0_1_2 (broadcastInDim S1x1000x128 ![1, 2] bcast_S1000x128_S1x1000x128_1_2
      (mulf (broadcastInDim S1000x128 ![] bcast_S_S1000x128 (constant S_ .f32 0x40000000#32)) (mulf sd sd)))))
    (broadcastInDim S1024x1000x128 ![0, 1, 2] bcast_S1x1000x128_S1024x1000x128_0_1_2 (broadcastInDim S1x1000x128 ![1, 2] bcast_S1000x128_S1x1000x128_1_2 (Host.log sd))))
    (broadcastInDim S1024x1000x128 ![] bcast_S_S1024x1000x128 (id (mulf (constant S_ .f32 0x3F000000#32) (Host.log (constant S_ .f32 0x40C90FDB#32))))))
    (constant S_ .f32 0x00000000#32) reducesTo_S1024x1000x128_S1024x1000_d2 h_S_

/-- The ten greatest entries of each row and their positions. -/
def top (v : FVec Ideal S1024x1000 .f32) : FVec Ideal S1024x10 .f32 × IVec S1024x10 32 :=
  Host.topK S1024x10 1 (FloatOps.cmpfTotal .gt) v sliceFits_S1024x1000_S1024x10

/-- The exponentials of each row relative to its greatest entry. -/
def expo (z : FVec Ideal S1024x10 .f32) : FVec Ideal S1024x10 .f32 :=
  Host.exp (subf z (broadcastInDim S1024x10 ![0, 1] bcast_S1024x1_S1024x10_0_1 (broadcastInDim S1024x1 ![0] bcast_S1024_S1024x1_0
    (maximumf (broadcastInDim S1024 ![] bcast_S_S1024 (constant S_ .f32 0xFF800000#32))
      (Host.reduce FloatOps.maximumf z (constant S_ .f32 0xFF800000#32) reducesTo_S1024x10_S1024_d1 h_S_)))))

/-- Each exponential's share of its row's. -/
def share (e : FVec Ideal S1024x10 .f32) : FVec Ideal S1024x10 .f32 :=
  Host.divf e (broadcastInDim S1024x10 ![0, 1] bcast_S1024x1_S1024x10_0_1 (broadcastInDim S1024x1 ![0] bcast_S1024_S1024x1_0
    (Host.reduceAdd e (constant S_ .f32 0x00000000#32) reducesTo_S1024x10_S1024_d1 h_S_)))

/-- The positions, a negative one counted from the end. -/
def wrap (i : IVec S1024x10 32) : IVec S1024x10 32 :=
  select (cmpi .slt i (broadcastInDim S1024x10 ![] bcast_S_S1024x10 (constantI S_ 32 0#32)))
    (addi i (broadcastInDim S1024x10 ![] bcast_S_S1024x10 (constantI S_ 32 1000#32))) i

/-- The outputs at the positions, weighted and summed. -/
def mix (o : FVec Ideal S1000x64 .f32) (i : IVec S1024x10 32) (p : FVec Ideal S1024x10 .f32) : FVec Ideal S1024x64 .f32 :=
  Host.reduceAdd (mulf (Host.gather gather_S1000x64_S1024x10x1_S1024x10x64_2_0_n_n_0_2_164 o
      (broadcastInDim S1024x10x1 ![0, 1] bcast_S1024x10_S1024x10x1_0_1 i))
    (broadcastInDim S1024x10x64 ![0, 1, 2] bcast_S1024x10x1_S1024x10x64_0_1_2 (broadcastInDim S1024x10x1 ![0, 1] bcast_S1024x10_S1024x10x1_0_1 p)))
    (constant S_ .f32 0x00000000#32) reducesTo_S1024x10x64_S1024x64_d1 h_S_

/-- The result from the arguments. -/
def value (x : FVec Ideal S1024x128 .f32) (mu sd : FVec Ideal S1000x128 .f32) (o : FVec Ideal S1000x64 .f32) : FVec Ideal S1024x64 .f32 :=
  mix o (wrap (top (joint x mu sd)).2) (share (expo (top (joint x mu sd)).1))

set_option maxRecDepth 8192 in
/-- The run's result is that value of the arguments. -/
theorem result_eq (m : (ℓ : Loc nD τ sig) → Buf (Elt Ideal) ℓ) (c : Dev nD) :
    Value.res_main_v44 (F := Ideal) m c = value (m ((c.tc : Thread nD τ).loc main_arg0)) (m ((c.tc : Thread nD τ).loc main_arg1))
      (m ((c.tc : Thread nD τ).loc main_arg2)) (m ((c.tc : Thread nD τ).loc main_arg3)) := by
  unfold Value.res_main_v44 value mix wrap share expo top joint
  rfl

section Reads

/-- A row spread over the components. -/
theorem row_apply (x : FVec Ideal S1024x128 .f32) (r : Fin 1024) (j : Fin 1000) (d : Fin 128) :
    broadcastInDim S1024x1000x128 ![0, 1, 2] bcast_S1024x1x128_S1024x1000x128_0_1_2 (broadcastInDim S1024x1x128 ![0, 2] bcast_S1024x128_S1024x1x128_0_2 x)
      (ix3 r j d) = x (ix2 r d) :=
  (broadcastInDim_apply _ _ _ _ (ix3 r 0 d) (fun a => match a with | ⟨0, _⟩ => rfl | ⟨1, _⟩ => rfl | ⟨2, _⟩ => rfl)).trans
    (broadcastInDim_apply _ _ _ _ (ix2 r d) (fun a => match a with | ⟨0, _⟩ => rfl | ⟨1, _⟩ => rfl))

/-- A component's row spread over the rows. -/
theorem component_apply (x : FVec Ideal S1000x128 .f32) (r : Fin 1024) (j : Fin 1000) (d : Fin 128) :
    broadcastInDim S1024x1000x128 ![0, 1, 2] bcast_S1x1000x128_S1024x1000x128_0_1_2 (broadcastInDim S1x1000x128 ![1, 2] bcast_S1000x128_S1x1000x128_1_2 x)
      (ix3 r j d) = x (ix2 j d) :=
  (broadcastInDim_apply _ _ _ _ (ix3 0 j d) (fun a => match a with | ⟨0, _⟩ => rfl | ⟨1, _⟩ => rfl | ⟨2, _⟩ => rfl)).trans
    (broadcastInDim_apply _ _ _ _ (ix2 j d) (fun a => match a with | ⟨0, _⟩ => rfl | ⟨1, _⟩ => rfl))

/-- One number per row, spread over the ten. -/
theorem spread10_apply (x : FVec Ideal S1024 .f32) (r : Fin 1024) (t : Fin 10) :
    broadcastInDim S1024x10 ![0, 1] bcast_S1024x1_S1024x10_0_1 (broadcastInDim S1024x1 ![0] bcast_S1024_S1024x1_0 x) (ix2 r t) = x (ix1 r) :=
  (broadcastInDim_apply _ _ _ _ (ix2 r 0) (fun a => match a with | ⟨0, _⟩ => rfl | ⟨1, _⟩ => rfl)).trans
    (broadcastInDim_apply _ _ _ _ (ix1 r) (fun a => match a with | ⟨0, _⟩ => rfl))

/-- One number per row and rank, spread over the outputs. -/
theorem spreadOut_apply (x : FVec Ideal S1024x10 .f32) (r : Fin 1024) (t : Fin 10) (c : Fin 64) :
    broadcastInDim S1024x10x64 ![0, 1, 2] bcast_S1024x10x1_S1024x10x64_0_1_2 (broadcastInDim S1024x10x1 ![0, 1] bcast_S1024x10_S1024x10x1_0_1 x)
      (ix3 r t c) = x (ix2 r t) :=
  (broadcastInDim_apply _ _ _ _ (ix3 r t 0) (fun a => match a with | ⟨0, _⟩ => rfl | ⟨1, _⟩ => rfl | ⟨2, _⟩ => rfl)).trans
    (broadcastInDim_apply _ _ _ _ (ix2 r t) (fun a => match a with | ⟨0, _⟩ => rfl | ⟨1, _⟩ => rfl))

/-- The features, reduced alone. -/
theorem reduces_feature : S1024x1000x128.Reduces [2] S1024x1000 := by decide
/-- The ten. -/
theorem reduces_ten : S1024x10.Reduces [1] S1024 := by decide
/-- The ten, with the outputs kept. -/
theorem reduces_out : S1024x10x64.Reduces [1] S1024x64 := by decide

/-- The feature put back into a row and component. -/
theorem lift_feature (r : Fin 1024) (j : Fin 1000) (d : Fin 128) : reduces_feature.lift (ix2 r j) d = ix3 r j d := by
  rw [eq_ix3 (reduces_feature.lift (ix2 r j) d)]; rfl
/-- The rank put back into a row. -/
theorem lift_ten (r : Fin 1024) (t : Fin 10) : reduces_ten.lift (ix1 r) t = ix2 r t := by
  rw [eq_ix2 (reduces_ten.lift (ix1 r) t)]; rfl
/-- The rank put back into a row and output. -/
theorem lift_out (r : Fin 1024) (c : Fin 64) (t : Fin 10) : reduces_out.lift (ix2 r c) t = ix3 r t c := by
  rw [eq_ix3 (reduces_out.lift (ix2 r c) t)]; rfl

/-- The pointwise operations at an index. -/
theorem entry_apply (X M S L C : FVec Ideal S1024x1000x128 .f32) (p : S1024x1000x128.Idx) :
    subf (subf (Host.divf (Host.negf (mulf (subf X M) (subf X M))) S) L) C p
      = Ideal.div (-((X p - M p) * (X p - M p))) (S p) - L p - C p := rfl

/-- The joint log probability of a row under a component is minus its squared distance, feature by feature. -/
theorem joint_apply (x : FVec Ideal S1024x128 .f32) (mu sd : FVec Ideal S1000x128 .f32) (r : Fin 1024) (j : Fin 1000) :
    joint x mu sd (ix2 r j) = LogProb.distance (fun d => x (ix2 r d)) (fun d => mu (ix2 j d)) (fun d => sd (ix2 j d)) := by
  unfold joint LogProb.distance
  refine (Ideal.hostReduceAdd_single reducesTo_S1024x1000x128_S1024x1000_d2 reduces_feature _ _ (ix2 r j)).trans ?_
  rw [constant_apply, Ideal.ofBits_zero_f32, zero_add]
  refine Finset.sum_congr rfl fun (d : Fin 128) _ => ?_
  refine (congrArg (subf (F := Ideal) (s := S1024x1000x128) (φ := .f32) _ _) (lift_feature r j d)).trans ?_
  refine (entry_apply _ _ _ _ _ _).trans ?_
  rw [row_apply, component_apply, component_apply, component_apply]
  rfl

/-- The exponentials of a row whose entry 0 is its greatest. -/
theorem expo_apply (z : FVec Ideal S1024x10 .f32) (r : Fin 1024) (h : ∀ t : Fin 10, z (ix2 r t) ≤ z (ix2 r 0)) (t : Fin 10) :
    expo z (ix2 r t) = Ideal.exp (z (ix2 r t) - z (ix2 r 0)) := by
  have hs : (FloatOps.ofBits .f32 0xFF800000#32 : Ideal .f32) = ⊥ := Cert.Round.start_eq
  have hm : Host.reduce (FloatOps.maximumf (F := Ideal) (φ := .f32)) z (constant S_ .f32 0xFF800000#32) reducesTo_S1024x10_S1024_d1 h_S_ (ix1 r)
      = z (ix2 r 0) := by
    refine (Host.reduce_eq_fold_single (FloatOps.maximumf (F := Ideal) (φ := .f32)) z _ reducesTo_S1024x10_S1024_d1 reduces_ten h_S_ (ix1 r)).trans ?_
    have e : (z ∘ reduces_ten.lift (ix1 r)) = fun u : Fin 10 => z (ix2 r u) := funext fun u => congrArg z (lift_ten r u)
    rw [e]
    show (Finset.univ : Finset (Fin 10)).fold max (FloatOps.ofBits .f32 0xFF800000#32 : Ideal .f32) (fun u => z (ix2 r u)) = _
    rw [hs]
    refine le_antisymm (Finset.fold_max_le _ |>.mpr ⟨bot_le, fun u _ => h u⟩) ?_
    exact (Finset.le_fold_max _).mpr (Or.inr ⟨0, Finset.mem_univ _, le_rfl⟩)
  unfold expo
  show Ideal.exp (z (ix2 r t) - _) = _
  rw [spread10_apply]
  show Ideal.exp (z (ix2 r t) - max (FloatOps.ofBits .f32 0xFF800000#32 : Ideal .f32) _) = _
  rw [hm, hs, max_eq_right bot_le]

/-- An exponential's share. -/
theorem share_apply (e : FVec Ideal S1024x10 .f32) (r : Fin 1024) (t : Fin 10) :
    share e (ix2 r t) = Ideal.div (e (ix2 r t)) (∑ u : Fin 10, e (ix2 r u)) := by
  unfold share
  show Ideal.div (e (ix2 r t)) _ = _
  rw [spread10_apply]
  refine congrArg (Ideal.div _) ?_
  refine (Ideal.hostReduceAdd_single reducesTo_S1024x10_S1024_d1 reduces_ten _ _ (ix1 r)).trans ?_
  rw [constant_apply, Ideal.ofBits_zero_f32, zero_add]
  exact Finset.sum_congr rfl fun (u : Fin 10) _ => congrArg e (lift_ten r u)

/-- A position within the components is kept. -/
theorem wrap_apply (i : IVec S1024x10 32) (r : Fin 1024) (t : Fin 10) (n : Nat) (hn : n < 1000) (h : i (ix2 r t) = BitVec.ofNat 32 n) :
    wrap i (ix2 r t) = BitVec.ofNat 32 n := by
  have hz : (BitVec.ofNat 32 n).slt 0#32 = false := by
    rw [BitVec.slt_eq_decide, Cert.Round.toInt_word n (by omega)]
    exact decide_eq_false (by simp)
  unfold wrap
  show Scalar.select (BitVec.ofBool ((i (ix2 r t)).slt 0#32)) _ (i (ix2 r t)) = _
  rw [h, hz]
  rfl

/-- The outputs at a row's positions, weighted and summed. -/
theorem mix_apply (o : FVec Ideal S1000x64 .f32) (i : IVec S1024x10 32) (p : FVec Ideal S1024x10 .f32) (r : Fin 1024) (c : Fin 64)
    (pos : Fin 10 → Fin 1000) (h : ∀ t, i (ix2 r t) = BitVec.ofNat 32 (pos t).val) :
    mix o i p (ix2 r c) = ∑ t : Fin 10, o (ix2 (pos t) c) * p (ix2 r t) := by
  unfold mix
  refine (Ideal.hostReduceAdd_single reducesTo_S1024x10x64_S1024x64_d1 reduces_out _ _ (ix2 r c)).trans ?_
  rw [constant_apply, Ideal.ofBits_zero_f32, zero_add]
  refine Finset.sum_congr rfl fun (t : Fin 10) _ => ?_
  refine (congrArg (mulf (F := Ideal) (s := S1024x10x64) (φ := .f32) _ _) (lift_out r c t)).trans ?_
  rw [mulf_apply, spreadOut_apply]
  refine congrArg (· * p (ix2 r t)) ?_
  refine rows_apply gather_S1000x64_S1024x10x1_S1024x10x64_2_0_n_n_0_2_164_wf o _ r t c (pos t) ?_
  rw [broadcastInDim_apply _ _ _ _ (ix2 r t) (fun a => match a with | ⟨0, _⟩ => rfl | ⟨1, _⟩ => rfl), h t]
  exact Cert.Round.toInt_word _ (by have := (pos t).isLt; omega)

end Reads

section Row
variable (v : FVec Ideal S1024x1000 .f32) (r : Fin 1024) (h10 : 10 ≤ 1000)

/-- The greatest entries of a row are the entries of the first ranks. -/
theorem top_first (t : Fin 10) : (top v).1 (ix2 r t) = v (ix2 r (rank (fun j => v (ix2 r j)) (t.castLE h10))) :=
  top_value h10 v _ r t

/-- Their positions. -/
theorem top_second (t : Fin 10) : (top v).2 (ix2 r t) = BitVec.ofNat 32 (rank (fun j => v (ix2 r j)) (t.castLE h10)).val :=
  top_position h10 v _ r t

end Row

/-- The first ten ranks of a row: the entry of rank 0 is the greatest of them. -/
theorem rank_le {n : Nat} (key : Fin n → EReal) (h10 : 10 ≤ n) (t : Fin 10) :
    key (rank key (t.castLE h10)) ≤ key (rank key ((0 : Fin 10).castLE h10)) := by
  by_cases h : t = 0
  · rw [h]
  have hlt : (0 : Fin 10).castLE h10 < t.castLE h10 := Nat.pos_of_ne_zero fun e => h (Fin.ext e)
  rcases ahead_rank key hlt with h | h
  · exact h.le
  · exact h.1.ge

/-- The reference's result at a row and an output, the row's log probabilities given by `key`. -/
theorem value_apply (x : FVec Ideal S1024x128 .f32) (mu sd : FVec Ideal S1000x128 .f32) (o : FVec Ideal S1000x64 .f32) (r : Fin 1024) (c : Fin 64)
    (key : Fin 1000 → EReal) (h10 : 10 ≤ 1000) (hk : (fun j => joint x mu sd (ix2 r j)) = key) :
    value x mu sd o (ix2 r c)
      = ∑ t : Fin 10, o (ix2 (rank key (t.castLE h10)) c)
          * Ideal.div (Ideal.exp (key (rank key (t.castLE h10)) - key (rank key ((0 : Fin 10).castLE h10))))
            (∑ u : Fin 10, Ideal.exp (key (rank key (u.castLE h10)) - key (rank key ((0 : Fin 10).castLE h10)))) := by
  have h1 : ∀ t, (top (joint x mu sd)).1 (ix2 r t) = key (rank key (t.castLE h10)) := fun t => by
    rw [top_first _ _ h10, hk]
    exact congrFun hk _
  have h2 : ∀ t, (top (joint x mu sd)).2 (ix2 r t) = BitVec.ofNat 32 (rank key (t.castLE h10)).val := fun t => by
    rw [top_second _ _ h10, hk]
  have h3 : ∀ t, expo (top (joint x mu sd)).1 (ix2 r t) = Ideal.exp (key (rank key (t.castLE h10)) - key (rank key ((0 : Fin 10).castLE h10))) := fun t => by
    rw [expo_apply _ _ (fun u => by rw [h1, h1]; exact rank_le key h10 u), h1, h1]
  unfold value
  rw [mix_apply _ _ _ _ _ (fun t => rank key (t.castLE h10)) (fun t => wrap_apply _ _ _ _ (Fin.isLt _) (h2 t))]
  refine Finset.sum_congr rfl fun t _ => ?_
  rw [share_apply, h3]
  refine congrArg (fun s => _ * Ideal.div _ s) ?_
  exact Finset.sum_congr rfl fun u _ => h3 u

end Cert.Reference

end
-- ==== Proof.Agree.lean ====
module

public import proofs.«01_k».proof.Proof.KernelArr
public import proofs.«01_k».proof.Proof.RefValue
public import proofs.«01_k».proof.Pre_good
public import Idealize.ShloMosaic.Lib.ReduceAll

@[expose] public section

noncomputable section

/-! The kernel's output array is the reference's result on the arguments the precondition admits. -/

namespace Cert.Agree

open Idealize.ShloMosaic Idealize.ShloMosaic.ValueIdx Cert.Top

/-- Dividing a weighted sum of arbitrary numbers by the weights' sum is weighting each by its share, the weights being
    exponentials of reals. -/
theorem div_sum (e : Fin 10 → EReal) (o : Fin 10 → EReal) (f : Fin 10 → ℝ) (he : ∀ t, e t = (Real.exp (f t) : EReal)) :
    Ideal.div (∑ t, e t * o t) (∑ t, e t) = ∑ t, o t * Ideal.div (e t) (∑ u, e u) := by
  have hs : ∑ t, e t = ((∑ t, Real.exp (f t) : ℝ) : EReal) := by
    rw [Finset.sum_congr rfl fun t _ => he t]
    exact LogProb.coe_sum _ _
  have hp : 0 < ∑ t, Real.exp (f t) := Finset.sum_pos (fun t _ => Real.exp_pos _) ⟨0, Finset.mem_univ _⟩
  rw [hs, Ideal.div_coe hp.ne', Round.sum_mul _ _ _ (EReal.coe_nonneg.mpr (by positivity)) (EReal.coe_ne_top _)]
  refine Finset.sum_congr rfl fun t _ => ?_
  rw [Ideal.div_coe hp.ne', mul_comm (e t) (o t), mul_assoc]

/-- A row's place among the blocks. -/
theorem row_block (r : Fin 1024) : Round.rowOf (Round.blockOf r) (Round.withinOf r) = r :=
  Fin.ext (show r.val / 256 * 256 + r.val % 256 = r.val by omega)

/-- On real inputs and means and real positive deviations the kernel's array is the reference's result, whatever the outputs. -/
theorem value_eq (x : FVec Ideal ReferenceIdeal.S1024x128 .f32) (mu sd : FVec Ideal ReferenceIdeal.S1000x128 .f32)
    (o : FVec Ideal ReferenceIdeal.S1000x64 .f32) (hx : ∀ i, ∃ r : ℝ, x i = r) (hmu : ∀ i, ∃ r : ℝ, mu i = r)
    (hsd : ∀ i, ∃ r : ℝ, 0 < r ∧ sd i = r) : Round.arr x mu sd o = Reference.value x mu sd o := by
  choose X hX using hx
  choose M hM using hmu
  choose D hD0 hD using hsd
  funext i
  obtain ⟨r, c, rfl⟩ : ∃ (r : Fin 1024) (c : Fin 64), i = ix2 r c := ⟨i 0, i 1, eq_ix2 i⟩
  have hkey : ∀ j : Fin 1000, ∃ k : ℝ,
      LogProb.square (fun d => x (ix2 r d)) (fun d => mu (ix2 j d)) (fun d => sd (ix2 j d)) = k
        ∧ LogProb.distance (fun d => x (ix2 r d)) (fun d => mu (ix2 j d)) (fun d => sd (ix2 j d)) = k := fun j => by
    have h := LogProb.square_eq_distance (fun d => X (ix2 r d)) (fun d => M (ix2 j d)) (fun d => D (ix2 j d)) (fun d => hD0 _)
    simpa only [hX, hM, hD] using h
  choose k hk1 hk2 using hkey
  have h10 : 10 ≤ 1000 := by omega
  have hn : 1000 ≤ 1024 := by omega
  have hj : (fun j => Reference.joint x mu sd (ix2 r j)) = fun j => (k j : EReal) := funext fun j =>
    (Reference.joint_apply x mu sd r j).trans (hk2 j)
  refine Eq.trans ?_ (Reference.value_apply x mu sd o r c (fun j => (k j : EReal)) h10 hj).symm
  have hq := Round.quotient_apply (Round.logp (Round.rows x (Round.blockOf r)) mu sd) o (Round.withinOf r) c hn (fun j => (k j : EReal)) h10
    (fun j => by
      rw [Round.logp_apply]
      refine Eq.trans ?_ (hk1 j)
      refine congrArg (fun z => LogProb.square z _ _) (funext fun d => ?_)
      show x (ix2 (Round.rowOf (Round.blockOf r) (Round.withinOf r)) d) = _
      rw [row_block])
    (fun j h => Round.logp_pad _ _ _ _ j h) (fun j => EReal.coe_ne_bot _)
  refine (show Round.arr x mu sd o (ix2 r c) = _ from hq).trans ?_
  refine (div_sum _ _ (fun t => k (rank (fun j => (k j : EReal)) (t.castLE h10)) - k (rank (fun j => (k j : EReal)) ((0 : Fin 10).castLE h10)))
    (fun t => ?_)).trans ?_
  · rw [← EReal.coe_sub, Ideal.exp_coe]
  · refine Finset.sum_congr rfl fun t _ => ?_
    generalize rank (fun j => (k j : EReal)) (t.castLE h10) = p
    rw [Round.padded_apply o p c]

/-- The precondition's facts. -/
instance facts : Cert.Pre_good.Facts where
  bcast_S_S1024x128 := by decide
  reducesTo_S1024x128_S_d0_1 := by decide
  h_S_ := by decide
  bcast_S_S1000x128 := by decide
  reducesTo_S1000x128_S_d0_1 := by decide

/-- Infinity's literal. -/
theorem lit_top : Ideal.ofBits .f32 0x7F800000#32 = ⊤ := by simp [Ideal.ofBits, Ideal.ieee]

/-- A number below infinity in magnitude is real. -/
theorem real_of_abs (a : EReal) (h : max a (-a) < ⊤) : ∃ r : ℝ, a = r := by
  induction a using EReal.rec with
  | bot => simp at h
  | top => simp at h
  | coe r => exact ⟨r, rfl⟩

/-- A positive number below infinity is real. -/
theorem real_of_pos (a : EReal) (h : a < ⊤) (h0 : 0 < a) : ∃ r : ℝ, 0 < r ∧ a = r := by
  induction a using EReal.rec with
  | bot => simp at h0
  | top => simp at h
  | coe r => exact ⟨r, EReal.coe_pos.mp h0, rfl⟩

/-- A mark of a true comparison. -/
theorem of_mark {p : Prop} [Decidable p] (h : BitVec.ofBool (decide p) = 1#1) : p := by
  by_contra hp
  rw [decide_eq_false hp] at h
  exact absurd h (by decide)

/-- What the precondition says of the arguments: the inputs and the means are real, the deviations real and positive. -/
theorem of_good (x : FVec Ideal Pre_good.S1024x128 .f32) (mu sd : FVec Ideal Pre_good.S1000x128 .f32)
    (o : FVec Ideal Pre_good.S1000x64 .f32) (h : Pre_good.fn (F := Ideal) x mu sd o = fun _ => 1#1) :
    (∀ i, ∃ r : ℝ, x i = r) ∧ (∀ i, ∃ r : ℝ, mu i = r) ∧ ∀ i, ∃ r : ℝ, 0 < r ∧ sd i = r := by
  have h := congrFun h ix0
  unfold Pre_good.fn Pre_good.fn_part1 at h
  obtain ⟨h, h4⟩ := IntOp.andi_eq_one.1 h
  obtain ⟨h, h3⟩ := IntOp.andi_eq_one.1 h
  obtain ⟨h1, h2⟩ := IntOp.andi_eq_one.1 h
  haveI : Subsingleton (Pre_good.S_.Idx) := ⟨fun a b => (eq_ix0 a).trans (eq_ix0 b).symm⟩
  refine ⟨fun i => real_of_abs _ ?_, fun i => real_of_abs _ ?_, fun i => real_of_pos _ ?_ ?_⟩
  · have e := of_mark (Host.reduce_andi_all _ _ _ _ _ h1 i)
    exact lt_of_lt_of_eq e lit_top
  · have e := of_mark (Host.reduce_andi_all _ _ _ _ _ h2 i)
    exact lt_of_lt_of_eq e lit_top
  · have e := of_mark (Host.reduce_andi_all _ _ _ _ _ h3 i)
    exact lt_of_lt_of_eq e lit_top
  · have e := of_mark (Host.reduce_andi_all _ _ _ _ _ h4 i)
    exact lt_of_eq_of_lt Ideal.ofBits_zero_f32.symm e

end Cert.Agree

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Agree
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference ends with its arguments unchanged and every counter at zero. -/
theorem reference_frame (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
        ∧ r.2.sem = fun _ => 0) :=
  (θ_run Cert.ReferenceIdeal.defs _ _).mono
    (fun r h => ⟨fun c => (h c).2, sem_eq_zero_of_no_sems (by decide) r.2⟩) (Cert.ReferenceIdeal.Value.run (F := Ideal) m ρ)

/-- The kernel and the reference end with equal results where the inputs and means are real and the deviations real and positive. -/
theorem algebraic : Cert.algebraic_KernelIdeal_ReferenceIdeal_pre_good := by
  intro m g m' g' hpre hargs
  refine ⟨fun c => Cert.Round.arr (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3)), ?_, ?_⟩
  · exact (θ_run Cert.KernelIdeal.defs _ _).mono (fun r h c => ⟨(h c).1.trans (Cert.Round.final_eq m c), (h c).2⟩)
      (Cert.KernelIdeal.Value.run_blocks (F := Ideal) m g)
  · refine (θ_run Cert.ReferenceIdeal.defs _ _).mono (fun r h c => ⟨(h c).1.trans ?_, (h c).2⟩)
      (Cert.ReferenceIdeal.Value.run (F := Ideal) m' g')
    obtain ⟨e0, e1, e2, e3⟩ := hargs c
    obtain ⟨hx, hmu, hsd⟩ := Cert.Agree.of_good _ _ _ _ (hpre c)
    refine (Cert.Reference.result_eq m' c).trans ?_
    rw [e0, e1, e2, e3]
    exact (Cert.Agree.value_eq _ _ _ _ hx hmu hsd).symm

/-- Every claim: the three programs' frames, the idealization, and the equality of the kernel's and the reference's results. -/
theorem claim : Cert.Claim := ⟨Cert.Kernel.Gen.facts, Cert.KernelIdeal.Gen.facts, Cert.ReferenceIdeal.Gen.facts, Cert.Agree.facts,
  fun m ρ _ => Cert.Kernel.Gen.frame m ρ, fun m ρ _ => Cert.KernelIdeal.Gen.frame m ρ, fun m ρ _ => Cert.KernelIdeal.Gen.frame m ρ,
  fun m ρ _ => reference_frame m ρ, fun m ρ _ => reference_frame m ρ,
  IdealRules.named_const.statement Cert.KernelIdeal.κ "mask" .f32 0xFF61B1E6#32 ⊥ rfl, algebraic⟩

end Cert.Proof

end
